-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_distinct_scores : Cert.Pre_distinct_scores.Facts),
    quiescent_Kernel (hKernel := hKernel)
    ∧ quiescent_KernelIdeal (hKernelIdeal := hKernelIdeal)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S8x64x64x3x4 : Shape := ⟨5, ![8, 64, 64, 3, 4]⟩
abbrev S8x64x64x3x1 : Shape := ⟨5, ![8, 64, 64, 3, 1]⟩
abbrev S8x64x64x3x80 : Shape := ⟨5, ![8, 64, 64, 3, 80]⟩
abbrev S8x32x32x3x4 : Shape := ⟨5, ![8, 32, 32, 3, 4]⟩
abbrev S8x32x32x3x1 : Shape := ⟨5, ![8, 32, 32, 3, 1]⟩
abbrev S8x32x32x3x80 : Shape := ⟨5, ![8, 32, 32, 3, 80]⟩
abbrev S8x16x16x3x4 : Shape := ⟨5, ![8, 16, 16, 3, 4]⟩
abbrev S8x16x16x3x1 : Shape := ⟨5, ![8, 16, 16, 3, 1]⟩
abbrev S8x16x16x3x80 : Shape := ⟨5, ![8, 16, 16, 3, 80]⟩
abbrev S8x12288x1 : Shape := ⟨3, ![8, 12288, 1]⟩
abbrev S8x3072x1 : Shape := ⟨3, ![8, 3072, 1]⟩
abbrev S8x768x1 : Shape := ⟨3, ![8, 768, 1]⟩
abbrev S8x16128x1 : Shape := ⟨3, ![8, 16128, 1]⟩
abbrev S8x12288x80 : Shape := ⟨3, ![8, 12288, 80]⟩
abbrev S8x3072x80 : Shape := ⟨3, ![8, 3072, 80]⟩
abbrev S8x768x80 : Shape := ⟨3, ![8, 768, 80]⟩
abbrev S8x16128x80 : Shape := ⟨3, ![8, 16128, 80]⟩
abbrev S8x80x16128 : Shape := ⟨3, ![8, 80, 16128]⟩
abbrev S_ : Shape := ⟨0, ![]⟩
abbrev S8x80x201 : Shape := ⟨3, ![8, 80, 201]⟩
abbrev S8x80x200 : Shape := ⟨3, ![8, 80, 200]⟩
abbrev S8x16000 : Shape := ⟨2, ![8, 16000]⟩
abbrev S8x80x1 : Shape := ⟨3, ![8, 80, 1]⟩
abbrev S8x80 : Shape := ⟨2, ![8, 80]⟩
abbrev S8x15999 : Shape := ⟨2, ![8, 15999]⟩
abbrev S8x16159 : Shape := ⟨2, ![8, 16159]⟩

class Facts : Prop where
  shapeCasts_S8x64x64x3x1_S8x12288x1 : S8x64x64x3x1.ShapeCasts S8x12288x1
  shapeCasts_S8x32x32x3x1_S8x3072x1 : S8x32x32x3x1.ShapeCasts S8x3072x1
  shapeCasts_S8x16x16x3x1_S8x768x1 : S8x16x16x3x1.ShapeCasts S8x768x1
  concatenates_S8x12288x1_S8x3072x1_S8x768x1_S8x16128x1_d1 : Shape.Concatenates [S8x12288x1, S8x3072x1, S8x768x1] S8x16128x1 1
  shapeCasts_S8x64x64x3x80_S8x12288x80 : S8x64x64x3x80.ShapeCasts S8x12288x80
  shapeCasts_S8x32x32x3x80_S8x3072x80 : S8x32x32x3x80.ShapeCasts S8x3072x80
  shapeCasts_S8x16x16x3x80_S8x768x80 : S8x16x16x3x80.ShapeCasts S8x768x80
  concatenates_S8x12288x80_S8x3072x80_S8x768x80_S8x16128x80_d1 : Shape.Concatenates [S8x12288x80, S8x3072x80, S8x768x80] S8x16128x80 1
  bcast_S8x16128x1_S8x16128x80_0_1_2 : S8x16128x1.BroadcastsInDim S8x16128x80 (![0, 1, 2] : Fin 3 → Fin S8x16128x80.rank)
  transposes_S8x16128x80_S8x80x16128_0_2_1 : S8x16128x80.Transposes [0, 2, 1] S8x80x16128
  bcast_S_S8x80x16128 : S_.BroadcastsInDim S8x80x16128 (![] : Fin 0 → Fin S8x80x16128.rank)
  sliceFits_S8x80x16128_S8x80x201 : S8x80x16128.Slices (fun _ => 0) S8x80x201
  slices_S8x80x201_S8x80x200_0_0_0 : S8x80x201.Slices ![0, 0, 0] S8x80x200
  shapeCasts_S8x80x200_S8x16000 : S8x80x200.ShapeCasts S8x16000
  slices_S8x80x201_S8x80x1_0_0_199 : S8x80x201.Slices ![0, 0, 199] S8x80x1
  shapeCasts_S8x80x1_S8x80 : S8x80x1.ShapeCasts S8x80
  slices_S8x80x201_S8x80x1_0_0_200 : S8x80x201.Slices ![0, 0, 200] S8x80x1
  sliceFits_S8x16000_S8x16000 : S8x16000.Slices (fun _ => 0) S8x16000
  slices_S8x16000_S8x15999_0_0 : S8x16000.Slices ![0, 0] S8x15999
  slices_S8x16000_S8x15999_0_1 : S8x16000.Slices ![0, 1] S8x15999
  bcast_S_S8x15999 : S_.BroadcastsInDim S8x15999 (![] : Fin 0 → Fin S8x15999.rank)
  bcast_S_S8x80 : S_.BroadcastsInDim S8x80 (![] : Fin 0 → Fin S8x80.rank)
  concatenates_S8x15999_S8x80_S8x80_S8x16159_d1 : Shape.Concatenates [S8x15999, S8x80, S8x80] S8x16159 1

variable [Facts]

def fn_part1 {F : FTy → Type} [FloatOps F] (main_v16 : FVec F S8x16000 .f32) (main_v18 : FVec F S8x80 .f32) (main_v19 : FVec F S8x80x1 .f32) : IVec S8x16159 1 :=
  let main_v20 : FVec F S8x80 .f32 := shapeCast S8x80 main_v19 shapeCasts_S8x80x1_S8x80
  let main_values_1 : FVec F S8x16000 .f32 := (fun x => (Host.topK S8x16000 1 (FloatOps.cmpfTotal .gt) x sliceFits_S8x16000_S8x16000).1) main_v16
  let main_indices_2 : IVec S8x16000 32 := (fun x => (Host.topK S8x16000 1 (FloatOps.cmpfTotal .gt) x sliceFits_S8x16000_S8x16000).2) main_v16
  let main_v21 : FVec F S8x15999 .f32 := (extractStridedSlice S8x15999 ![0, 0] · slices_S8x16000_S8x15999_0_0) main_values_1
  let main_v22 : FVec F S8x15999 .f32 := (extractStridedSlice S8x15999 ![0, 1] · slices_S8x16000_S8x15999_0_1) main_values_1
  let main_v23 : IVec S8x15999 1 := cmpf .ogt main_v21 main_v22
  let main_cst_3 : FVec F S_ .f32 := constant S_ .f32 0x3E800000#32
  let main_v24 : FVec F S8x15999 .f32 := broadcastInDim S8x15999 ![] bcast_S_S8x15999 main_cst_3
  let main_v25 : IVec S8x15999 1 := cmpf .ole main_v22 main_v24
  let main_v26 : IVec S8x15999 1 := ori main_v23 main_v25
  let main_v27 : FVec F S8x80 .f32 := subf main_v18 main_v20
  let main_cst_4 : FVec F S_ .f32 := constant S_ .f32 0x27000000#32
  let main_v28 : FVec F S8x80 .f32 := broadcastInDim S8x80 ![] bcast_S_S8x80 main_cst_4
  let main_v29 : IVec S8x80 1 := cmpf .oge main_v27 main_v28
  let main_cst_5 : FVec F S_ .f32 := constant S_ .f32 0x3E800000#32
  let main_v30 : FVec F S8x80 .f32 := broadcastInDim S8x80 ![] bcast_S_S8x80 main_cst_5
  let main_v31 : IVec S8x80 1 := cmpf .ole main_v20 main_v30
  let main_v32 : IVec S8x80 1 := ori main_v29 main_v31
  let main_cst_6 : FVec F S_ .f32 := constant S_ .f32 0x3FC00000#32
  let main_v33 : FVec F S8x80 .f32 := broadcastInDim S8x80 ![] bcast_S_S8x80 main_cst_6
  let main_v34 : IVec S8x80 1 := cmpf .olt main_v18 main_v33
  let main_v35 : IVec S8x16159 1 := concatenate S8x16159 1 [⟨S8x15999, main_v26⟩, ⟨S8x80, main_v32⟩, ⟨S8x80, main_v34⟩] concatenates_S8x15999_S8x80_S8x80_S8x16159_d1
  main_v35

def fn {F : FTy → Type} [FloatOps F] (main_arg0 : FVec F S8x64x64x3x4 .f32) (main_arg1 : FVec F S8x64x64x3x1 .f32) (main_arg2 : FVec F S8x64x64x3x80 .f32) (main_arg3 : FVec F S8x32x32x3x4 .f32) (main_arg4 : FVec F S8x32x32x3x1 .f32) (main_arg5 : FVec F S8x32x32x3x80 .f32) (main_arg6 : FVec F S8x16x16x3x4 .f32) (main_arg7 : FVec F S8x16x16x3x1 .f32) (main_arg8 : FVec F S8x16x16x3x80 .f32) : IVec S8x16159 1 :=
  let main_v0 : FVec F S8x12288x1 .f32 := shapeCast S8x12288x1 main_arg1 shapeCasts_S8x64x64x3x1_S8x12288x1
  let main_v1 : FVec F S8x3072x1 .f32 := shapeCast S8x3072x1 main_arg4 shapeCasts_S8x32x32x3x1_S8x3072x1
  let main_v2 : FVec F S8x768x1 .f32 := shapeCast S8x768x1 main_arg7 shapeCasts_S8x16x16x3x1_S8x768x1
  let main_v3 : FVec F S8x16128x1 .f32 := concatenate S8x16128x1 1 [⟨S8x12288x1, main_v0⟩, ⟨S8x3072x1, main_v1⟩, ⟨S8x768x1, main_v2⟩] concatenates_S8x12288x1_S8x3072x1_S8x768x1_S8x16128x1_d1
  let main_v4 : FVec F S8x12288x80 .f32 := shapeCast S8x12288x80 main_arg2 shapeCasts_S8x64x64x3x80_S8x12288x80
  let main_v5 : FVec F S8x3072x80 .f32 := shapeCast S8x3072x80 main_arg5 shapeCasts_S8x32x32x3x80_S8x3072x80
  let main_v6 : FVec F S8x768x80 .f32 := shapeCast S8x768x80 main_arg8 shapeCasts_S8x16x16x3x80_S8x768x80
  let main_v7 : FVec F S8x16128x80 .f32 := concatenate S8x16128x80 1 [⟨S8x12288x80, main_v4⟩, ⟨S8x3072x80, main_v5⟩, ⟨S8x768x80, main_v6⟩] concatenates_S8x12288x80_S8x3072x80_S8x768x80_S8x16128x80_d1
  let main_v8 : FVec F S8x16128x80 .f32 := broadcastInDim S8x16128x80 ![0, 1, 2] bcast_S8x16128x1_S8x16128x80_0_1_2 main_v3
  let main_v9 : FVec F S8x16128x80 .f32 := mulf main_v8 main_v7
  let main_v10 : FVec F S8x80x16128 .f32 := (transpose S8x80x16128 [0, 2, 1] · transposes_S8x16128x80_S8x80x16128_0_2_1) main_v9
  let main_cst : FVec F S_ .f32 := constant S_ .f32 0x3E800000#32
  let main_v11 : FVec F S8x80x16128 .f32 := broadcastInDim S8x80x16128 ![] bcast_S_S8x80x16128 main_cst
  let main_v12 : IVec S8x80x16128 1 := cmpf .ogt main_v10 main_v11
  let main_cst_0 : FVec F S_ .f32 := constant S_ .f32 0xBF800000#32
  let main_v13 : FVec F S8x80x16128 .f32 := broadcastInDim S8x80x16128 ![] bcast_S_S8x80x16128 main_cst_0
  let main_v14 : FVec F S8x80x16128 .f32 := select main_v12 main_v10 main_v13
  let main_values : FVec F S8x80x201 .f32 := (fun x => (Host.topK S8x80x201 2 (FloatOps.cmpfTotal .gt) x sliceFits_S8x80x16128_S8x80x201).1) main_v14
  let main_indices : IVec S8x80x201 32 := (fun x => (Host.topK S8x80x201 2 (FloatOps.cmpfTotal .gt) x sliceFits_S8x80x16128_S8x80x201).2) main_v14
  let main_v15 : FVec F S8x80x200 .f32 := (extractStridedSlice S8x80x200 ![0, 0, 0] · slices_S8x80x201_S8x80x200_0_0_0) main_values
  let main_v16 : FVec F S8x16000 .f32 := shapeCast S8x16000 main_v15 shapeCasts_S8x80x200_S8x16000
  let main_v17 : FVec F S8x80x1 .f32 := (extractStridedSlice S8x80x1 ![0, 0, 199] · slices_S8x80x201_S8x80x1_0_0_199) main_values
  let main_v18 : FVec F S8x80 .f32 := shapeCast S8x80 main_v17 shapeCasts_S8x80x1_S8x80
  let main_v19 : FVec F S8x80x1 .f32 := (extractStridedSlice S8x80x1 ![0, 0, 200] · slices_S8x80x201_S8x80x1_0_0_200) main_values
  fn_part1 (F := F) main_v16 main_v18 main_v19
-- ==== Kernel.lean ====
abbrev S8x64x64x3x4 : Shape := ⟨5, ![8, 64, 64, 3, 4]⟩
abbrev S8x64x64x3x1 : Shape := ⟨5, ![8, 64, 64, 3, 1]⟩
abbrev S8x64x64x3x80 : Shape := ⟨5, ![8, 64, 64, 3, 80]⟩
abbrev S8x32x32x3x4 : Shape := ⟨5, ![8, 32, 32, 3, 4]⟩
abbrev S8x32x32x3x1 : Shape := ⟨5, ![8, 32, 32, 3, 1]⟩
abbrev S8x32x32x3x80 : Shape := ⟨5, ![8, 32, 32, 3, 80]⟩
abbrev S8x16x16x3x4 : Shape := ⟨5, ![8, 16, 16, 3, 4]⟩
abbrev S8x16x16x3x1 : Shape := ⟨5, ![8, 16, 16, 3, 1]⟩
abbrev S8x16x16x3x80 : Shape := ⟨5, ![8, 16, 16, 3, 80]⟩
abbrev S8x12288x4 : Shape := ⟨3, ![8, 12288, 4]⟩
abbrev S8x3072x4 : Shape := ⟨3, ![8, 3072, 4]⟩
abbrev S8x768x4 : Shape := ⟨3, ![8, 768, 4]⟩
abbrev S8x16128x4 : Shape := ⟨3, ![8, 16128, 4]⟩
abbrev S8x12288 : Shape := ⟨2, ![8, 12288]⟩
abbrev S8x3072 : Shape := ⟨2, ![8, 3072]⟩
abbrev S8x768 : Shape := ⟨2, ![8, 768]⟩
abbrev S8x16128 : Shape := ⟨2, ![8, 16128]⟩
abbrev S8x12288x80 : Shape := ⟨3, ![8, 12288, 80]⟩
abbrev S8x3072x80 : Shape := ⟨3, ![8, 3072, 80]⟩
abbrev S8x768x80 : Shape := ⟨3, ![8, 768, 80]⟩
abbrev S8x16128x80 : Shape := ⟨3, ![8, 16128, 80]⟩
abbrev S8x80x16128 : Shape := ⟨3, ![8, 80, 16128]⟩
abbrev S8x80x126x128 : Shape := ⟨4, ![8, 80, 126, 128]⟩
abbrev S8x126x128 : Shape := ⟨3, ![8, 126, 128]⟩
abbrev S8x4x16128 : Shape := ⟨3, ![8, 4, 16128]⟩
abbrev S8x4x126x128 : Shape := ⟨4, ![8, 4, 126, 128]⟩
abbrev S8x5x16x128 : Shape := ⟨4, ![8, 5, 16, 128]⟩
abbrev S8x5x64x128 : Shape := ⟨4, ![8, 5, 64, 128]⟩
abbrev S1x16x126x128 : Shape := ⟨4, ![1, 16, 126, 128]⟩
abbrev S1x126x128 : Shape := ⟨3, ![1, 126, 128]⟩
abbrev S1x4x126x128 : Shape := ⟨4, ![1, 4, 126, 128]⟩
abbrev S1x1x16x128 : Shape := ⟨4, ![1, 1, 16, 128]⟩
abbrev S1x1x64x128 : Shape := ⟨4, ![1, 1, 64, 128]⟩
abbrev S126x128 : Shape := ⟨2, ![126, 128]⟩
abbrev S1x1x126x128 : Shape := ⟨4, ![1, 1, 126, 128]⟩
abbrev S1 : Shape := ⟨1, ![1]⟩
abbrev S1x1x1 : Shape := ⟨3, ![1, 1, 1]⟩
abbrev S1x128 : Shape := ⟨2, ![1, 128]⟩
abbrev S16x128 : Shape := ⟨2, ![16, 128]⟩
abbrev S4x128 : Shape := ⟨2, ![4, 128]⟩
abbrev S64x128 : Shape := ⟨2, ![64, 128]⟩
abbrev S8x80x128 : Shape := ⟨3, ![8, 80, 128]⟩
abbrev S8x80x4x128 : Shape := ⟨4, ![8, 80, 4, 128]⟩
abbrev S8x1x128 : Shape := ⟨3, ![8, 1, 128]⟩
abbrev S8x4x128 : Shape := ⟨3, ![8, 4, 128]⟩
abbrev S8x1x1 : Shape := ⟨3, ![8, 1, 1]⟩
abbrev S1x80x128 : Shape := ⟨3, ![1, 80, 128]⟩
abbrev S1x80x4x128 : Shape := ⟨4, ![1, 80, 4, 128]⟩
abbrev S1x1x128 : Shape := ⟨3, ![1, 1, 128]⟩
abbrev S1x4x128 : Shape := ⟨3, ![1, 4, 128]⟩
abbrev S80x128 : Shape := ⟨2, ![80, 128]⟩
abbrev S1x80x1x128 : Shape := ⟨4, ![1, 80, 1, 128]⟩
abbrev S8x4x100 : Shape := ⟨3, ![8, 4, 100]⟩
abbrev S8x100x4 : Shape := ⟨3, ![8, 100, 4]⟩
abbrev S8x1x100 : Shape := ⟨3, ![8, 1, 100]⟩
abbrev S8x100 : Shape := ⟨2, ![8, 100]⟩
abbrev S8 : Shape := ⟨1, ![8]⟩

abbrev nBuf : Space → Nat
  | .hbm => 41
  | .vmem => 22
  | .smem => 0
  | _ => 0

abbrev bufTy : (tb : Table) → Fin (tcTables nBuf tb) → BufTy
  | .hbm, ⟨0, _⟩ => ⟨S8x64x64x3x4, .f32⟩
  | .hbm, ⟨1, _⟩ => ⟨S8x64x64x3x1, .f32⟩
  | .hbm, ⟨2, _⟩ => ⟨S8x64x64x3x80, .f32⟩
  | .hbm, ⟨3, _⟩ => ⟨S8x32x32x3x4, .f32⟩
  | .hbm, ⟨4, _⟩ => ⟨S8x32x32x3x1, .f32⟩
  | .hbm, ⟨5, _⟩ => ⟨S8x32x32x3x80, .f32⟩
  | .hbm, ⟨6, _⟩ => ⟨S8x16x16x3x4, .f32⟩
  | .hbm, ⟨7, _⟩ => ⟨S8x16x16x3x1, .f32⟩
  | .hbm, ⟨8, _⟩ => ⟨S8x16x16x3x80, .f32⟩
  | .hbm, ⟨9, _⟩ => ⟨S8x12288x4, .f32⟩
  | .hbm, ⟨10, _⟩ => ⟨S8x3072x4, .f32⟩
  | .hbm, ⟨11, _⟩ => ⟨S8x768x4, .f32⟩
  | .hbm, ⟨12, _⟩ => ⟨S8x16128x4, .f32⟩
  | .hbm, ⟨13, _⟩ => ⟨S8x12288, .f32⟩
  | .hbm, ⟨14, _⟩ => ⟨S8x3072, .f32⟩
  | .hbm, ⟨15, _⟩ => ⟨S8x768, .f32⟩
  | .hbm, ⟨16, _⟩ => ⟨S8x16128, .f32⟩
  | .hbm, ⟨17, _⟩ => ⟨S8x12288x80, .f32⟩
  | .hbm, ⟨18, _⟩ => ⟨S8x3072x80, .f32⟩
  | .hbm, ⟨19, _⟩ => ⟨S8x768x80, .f32⟩
  | .hbm, ⟨20, _⟩ => ⟨S8x16128x80, .f32⟩
  | .hbm, ⟨21, _⟩ => ⟨S8x80x16128, .f32⟩
  | .hbm, ⟨22, _⟩ => ⟨S8x80x126x128, .f32⟩
  | .hbm, ⟨23, _⟩ => ⟨S8x126x128, .f32⟩
  | .hbm, ⟨24, _⟩ => ⟨S8x4x16128, .f32⟩
  | .hbm, ⟨25, _⟩ => ⟨S8x4x126x128, .f32⟩
  | .hbm, ⟨26, _⟩ => ⟨S8x5x16x128, .f32⟩
  | .hbm, ⟨27, _⟩ => ⟨S8x5x64x128, .f32⟩
  | .hbm, ⟨28, _⟩ => ⟨S8x80x128, .f32⟩
  | .hbm, ⟨29, _⟩ => ⟨S8x80x4x128, .f32⟩
  | .hbm, ⟨30, _⟩ => ⟨S8x1x128, .f32⟩
  | .hbm, ⟨31, _⟩ => ⟨S8x1x128, .f32⟩
  | .hbm, ⟨32, _⟩ => ⟨S8x4x128, .f32⟩
  | .hbm, ⟨33, _⟩ => ⟨S8x1x1, .i32⟩
  | .hbm, ⟨34, _⟩ => ⟨S8x4x100, .f32⟩
  | .hbm, ⟨35, _⟩ => ⟨S8x100x4, .f32⟩
  | .hbm, ⟨36, _⟩ => ⟨S8x1x100, .f32⟩
  | .hbm, ⟨37, _⟩ => ⟨S8x100, .f32⟩
  | .hbm, ⟨38, _⟩ => ⟨S8x1x100, .f32⟩
  | .hbm, ⟨39, _⟩ => ⟨S8x100, .f32⟩
  | .hbm, ⟨40, _⟩ => ⟨S8, .i32⟩
  | .local _ .vmem, ⟨0, _⟩ => ⟨S1x16x126x128, .f32⟩
  | .local _ .vmem, ⟨1, _⟩ => ⟨S1x16x126x128, .f32⟩
  | .local _ .vmem, ⟨2, _⟩ => ⟨S1x126x128, .f32⟩
  | .local _ .vmem, ⟨3, _⟩ => ⟨S1x126x128, .f32⟩
  | .local _ .vmem, ⟨4, _⟩ => ⟨S1x4x126x128, .f32⟩
  | .local _ .vmem, ⟨5, _⟩ => ⟨S1x4x126x128, .f32⟩
  | .local _ .vmem, ⟨6, _⟩ => ⟨S1x1x16x128, .f32⟩
  | .local _ .vmem, ⟨7, _⟩ => ⟨S1x1x16x128, .f32⟩
  | .local _ .vmem, ⟨8, _⟩ => ⟨S1x1x64x128, .f32⟩
  | .local _ .vmem, ⟨9, _⟩ => ⟨S1x1x64x128, .f32⟩
  | .local _ .vmem, ⟨10, _⟩ => ⟨S1x80x128, .f32⟩
  | .local _ .vmem, ⟨11, _⟩ => ⟨S1x80x128, .f32⟩
  | .local _ .vmem, ⟨12, _⟩ => ⟨S1x80x4x128, .f32⟩
  | .local _ .vmem, ⟨13, _⟩ => ⟨S1x80x4x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .f32⟩
  | .local _ .vmem, ⟨17, _⟩ => ⟨S1x1x128, .f32⟩
  | .local _ .vmem, ⟨18, _⟩ => ⟨S1x4x128, .f32⟩
  | .local _ .vmem, ⟨19, _⟩ => ⟨S1x4x128, .f32⟩
  | .local _ .vmem, ⟨20, _⟩ => ⟨S1x1x1, .i32⟩
  | .local _ .vmem, ⟨21, _⟩ => ⟨S1x1x1, .i32⟩
  | _, _ => ⟨S8x64x64x3x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![8, 5], ![false, false]⟩

@[reducible] def k0_t1_loop : Scf.Loop 32 :=
  let c0_i32 : BitVec 32 := 0#32
  let c50_i32 : BitVec 32 := 50#32
  let v162 : BitVec 32 := Scalar.addi c0_i32 c50_i32
  let c1_i32 : BitVec 32 := 1#32
  ⟨c0_i32, v162, c1_i32⟩
@[reducible] def k0_t2_loop : Scf.Loop 32 :=
  let c0_i32_211 : BitVec 32 := 0#32
  let c100_i32 : BitVec 32 := 100#32
  let v238 : BitVec 32 := Scalar.addi c0_i32_211 c100_i32
  let c1_i32_212 : BitVec 32 := 1#32
  ⟨c0_i32_211, v238, c1_i32_212⟩
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x126x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x126x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4x126x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![8], ![false]⟩

@[reducible] def k1_t1_loop : Scf.Loop 32 :=
  let c0_i32 : BitVec 32 := 0#32
  let c100_i32_4 : BitVec 32 := 100#32
  let v14 : BitVec 32 := Scalar.addi c0_i32 c100_i32_4
  let c1_i32 : BitVec 32 := 1#32
  ⟨c0_i32, v14, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x80x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x80x4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x64x64x3x4 : Shape := ⟨5, ![8, 64, 64, 3, 4]⟩
abbrev S8x64x64x3x1 : Shape := ⟨5, ![8, 64, 64, 3, 1]⟩
abbrev S8x64x64x3x80 : Shape := ⟨5, ![8, 64, 64, 3, 80]⟩
abbrev S8x32x32x3x4 : Shape := ⟨5, ![8, 32, 32, 3, 4]⟩
abbrev S8x32x32x3x1 : Shape := ⟨5, ![8, 32, 32, 3, 1]⟩
abbrev S8x32x32x3x80 : Shape := ⟨5, ![8, 32, 32, 3, 80]⟩
abbrev S8x16x16x3x4 : Shape := ⟨5, ![8, 16, 16, 3, 4]⟩
abbrev S8x16x16x3x1 : Shape := ⟨5, ![8, 16, 16, 3, 1]⟩
abbrev S8x16x16x3x80 : Shape := ⟨5, ![8, 16, 16, 3, 80]⟩
abbrev S8x12288x4 : Shape := ⟨3, ![8, 12288, 4]⟩
abbrev S8x3072x4 : Shape := ⟨3, ![8, 3072, 4]⟩
abbrev S8x768x4 : Shape := ⟨3, ![8, 768, 4]⟩
abbrev S8x16128x4 : Shape := ⟨3, ![8, 16128, 4]⟩
abbrev S8x12288x1 : Shape := ⟨3, ![8, 12288, 1]⟩
abbrev S8x3072x1 : Shape := ⟨3, ![8, 3072, 1]⟩
abbrev S8x768x1 : Shape := ⟨3, ![8, 768, 1]⟩
abbrev S8x16128x1 : Shape := ⟨3, ![8, 16128, 1]⟩
abbrev S8x12288x80 : Shape := ⟨3, ![8, 12288, 80]⟩
abbrev S8x3072x80 : Shape := ⟨3, ![8, 3072, 80]⟩
abbrev S8x768x80 : Shape := ⟨3, ![8, 768, 80]⟩
abbrev S8x16128x80 : Shape := ⟨3, ![8, 16128, 80]⟩
abbrev S8x80x16128 : Shape := ⟨3, ![8, 80, 16128]⟩
abbrev S_ : Shape := ⟨0, ![]⟩
abbrev S8x80x200 : Shape := ⟨3, ![8, 80, 200]⟩
abbrev S8x80x200x1 : Shape := ⟨4, ![8, 80, 200, 1]⟩
abbrev S8x80x200x4 : Shape := ⟨4, ![8, 80, 200, 4]⟩
abbrev S100 : Shape := ⟨1, ![100]⟩
abbrev S200 : Shape := ⟨1, ![200]⟩
abbrev S8x80x100 : Shape := ⟨3, ![8, 80, 100]⟩
abbrev S8x80x100x4 : Shape := ⟨4, ![8, 80, 100, 4]⟩
abbrev S8x80 : Shape := ⟨2, ![8, 80]⟩
abbrev S8x80x1 : Shape := ⟨3, ![8, 80, 1]⟩
abbrev S8x80x1x1 : Shape := ⟨4, ![8, 80, 1, 1]⟩
abbrev S8x80x1x4 : Shape := ⟨4, ![8, 80, 1, 4]⟩
abbrev S100x1 : Shape := ⟨2, ![100, 1]⟩
abbrev S1x1x200 : Shape := ⟨3, ![1, 1, 200]⟩
abbrev S80 : Shape := ⟨1, ![80]⟩
abbrev S80x1 : Shape := ⟨2, ![80, 1]⟩
abbrev S8x8000 : Shape := ⟨2, ![8, 8000]⟩
abbrev S8x8000x4 : Shape := ⟨3, ![8, 8000, 4]⟩
abbrev S8x100 : Shape := ⟨2, ![8, 100]⟩
abbrev S8x100x1 : Shape := ⟨3, ![8, 100, 1]⟩
abbrev S8x100x4 : Shape := ⟨3, ![8, 100, 4]⟩
abbrev S8 : Shape := ⟨1, ![8]⟩

abbrev nBuf : Space → Nat
  | .hbm => 223
  | .vmem => 0
  | .smem => 0
  | _ => 0

abbrev hbmTy0_0 (i : Nat) : BufTy := match i % 128 with
  | 0 => ⟨S8x64x64x3x4, .f32⟩
  | 1 => ⟨S8x64x64x3x1, .f32⟩
  | 2 => ⟨S8x64x64x3x80, .f32⟩
  | 3 => ⟨S8x32x32x3x4, .f32⟩
  | 4 => ⟨S8x32x32x3x1, .f32⟩
  | 5 => ⟨S8x32x32x3x80, .f32⟩
  | 6 => ⟨S8x16x16x3x4, .f32⟩
  | 7 => ⟨S8x16x16x3x1, .f32⟩
  | 8 => ⟨S8x16x16x3x80, .f32⟩
  | 9 => ⟨S8x12288x4, .f32⟩
  | 10 => ⟨S8x3072x4, .f32⟩
  | 11 => ⟨S8x768x4, .f32⟩
  | 12 => ⟨S8x16128x4, .f32⟩
  | 13 => ⟨S8x12288x1, .f32⟩
  | 14 => ⟨S8x3072x1, .f32⟩
  | 15 => ⟨S8x768x1, .f32⟩
  | 16 => ⟨S8x16128x1, .f32⟩
  | 17 => ⟨S8x12288x80, .f32⟩
  | 18 => ⟨S8x3072x80, .f32⟩
  | 19 => ⟨S8x768x80, .f32⟩
  | 20 => ⟨S8x16128x80, .f32⟩
  | 21 => ⟨S8x16128x80, .f32⟩
  | 22 => ⟨S8x16128x80, .f32⟩
  | 23 => ⟨S8x80x16128, .f32⟩
  | 24 => ⟨S_, .f32⟩
  | 25 => ⟨S8x80x16128, .f32⟩
  | 26 => ⟨S8x80x16128, .i1⟩
  | 27 => ⟨S_, .f32⟩
  | 28 => ⟨S8x80x16128, .f32⟩
  | 29 => ⟨S8x80x16128, .f32⟩
  | 30 => ⟨S8x80x200, .f32⟩
  | 31 => ⟨S8x80x200, .i32⟩
  | 32 => ⟨S8x80x200x1, .i32⟩
  | 33 => ⟨S8x80x200x4, .f32⟩
  | 34 => ⟨S100, .i32⟩
  | 35 => ⟨S200, .i32⟩
  | 36 => ⟨S_, .f32⟩
  | 37 => ⟨S8x80x100, .f32⟩
  | 38 => ⟨S_, .f32⟩
  | 39 => ⟨S8x80x100x4, .f32⟩
  | 40 => ⟨S_, .i32⟩
  | 41 => ⟨S_, .i32⟩
  | 42 => ⟨S200, .i32⟩
  | 43 => ⟨S8x80x200x4, .f32⟩
  | 44 => ⟨S100, .i32⟩
  | 45 => ⟨S_, .i32⟩
  | 46 => ⟨S_, .i32⟩
  | 47 => ⟨S8x80x200, .f32⟩
  | 48 => ⟨S8x80x100, .f32⟩
  | 49 => ⟨S8x80x100x4, .f32⟩
  | 50 => ⟨S_, .i32⟩
  | 51 => ⟨S_, .i1⟩
  | 52 => ⟨S_, .i32⟩
  | 53 => ⟨S_, .i32⟩
  | 54 => ⟨S_, .f32⟩
  | 55 => ⟨S8x80, .f32⟩
  | 56 => ⟨S8x80x1, .f32⟩
  | 57 => ⟨S8x80x200, .f32⟩
  | 58 => ⟨S8x80x200, .i1⟩
  | 59 => ⟨S_, .i32⟩
  | 60 => ⟨S_, .i32⟩
  | 61 => ⟨S8x80x200, .i32⟩
  | 62 => ⟨S8x80x200, .i32⟩
  | 63 => ⟨S8x80x200, .i32⟩
  | 64 => ⟨S_, .i32⟩
  | 65 => ⟨S8x80, .i32⟩
  | 66 => ⟨S_, .f32⟩
  | 67 => ⟨S8x80, .f32⟩
  | 68 => ⟨S8x80, .i1⟩
  | 69 => ⟨S8x80x1x1, .i32⟩
  | 70 => ⟨S_, .i32⟩
  | 71 => ⟨S8x80x1x1, .i32⟩
  | 72 => ⟨S8x80x1x1, .i1⟩
  | 73 => ⟨S_, .i32⟩
  | 74 => ⟨S8x80x1x1, .i32⟩
  | 75 => ⟨S8x80x1x1, .i32⟩
  | 76 => ⟨S8x80x1x1, .i32⟩
  | 77 => ⟨S8x80x1x4, .f32⟩
  | 78 => ⟨S_, .i32⟩
  | 79 => ⟨S100, .i32⟩
  | 80 => ⟨S100, .i1⟩
  | 81 => ⟨S_, .f32⟩
  | 82 => ⟨S_, .f32⟩
  | 83 => ⟨S8x80, .f32⟩
  | 84 => ⟨S8x80, .f32⟩
  | 85 => ⟨S8x80x1, .f32⟩
  | 86 => ⟨S8x80x100, .i1⟩
  | 87 => ⟨S8x80x100, .f32⟩
  | 88 => ⟨S8x80x100, .f32⟩
  | 89 => ⟨S_, .i32⟩
  | 90 => ⟨S100, .i32⟩
  | 91 => ⟨S100, .i1⟩
  | 92 => ⟨S100x1, .i1⟩
  | 93 => ⟨S8x80x1x1, .i1⟩
  | 94 => ⟨S_, .f32⟩
  | 95 => ⟨S_, .f32⟩
  | 96 => ⟨S8x80x1x4, .i1⟩
  | 97 => ⟨S8x80x1x4, .f32⟩
  | 98 => ⟨S8x80x1x4, .f32⟩
  | 99 => ⟨S8x80x100x4, .i1⟩
  | 100 => ⟨S8x80x100x4, .f32⟩
  | 101 => ⟨S8x80x100x4, .f32⟩
  | 102 => ⟨S8x80x1x1, .f32⟩
  | 103 => ⟨S8x80x1, .f32⟩
  | 104 => ⟨S8x80x200x1, .f32⟩
  | 105 => ⟨S8x80x200, .f32⟩
  | 106 => ⟨S8x80x200, .f32⟩
  | 107 => ⟨S8x80x200, .f32⟩
  | 108 => ⟨S8x80x1x1, .f32⟩
  | 109 => ⟨S8x80x1, .f32⟩
  | 110 => ⟨S8x80x200x1, .f32⟩
  | 111 => ⟨S8x80x200, .f32⟩
  | 112 => ⟨S8x80x200, .f32⟩
  | 113 => ⟨S8x80x200, .f32⟩
  | 114 => ⟨S8x80x1x1, .f32⟩
  | 115 => ⟨S8x80x1, .f32⟩
  | 116 => ⟨S8x80x200x1, .f32⟩
  | 117 => ⟨S8x80x200, .f32⟩
  | 118 => ⟨S8x80x200, .f32⟩
  | 119 => ⟨S8x80x200, .f32⟩
  | 120 => ⟨S8x80x1x1, .f32⟩
  | 121 => ⟨S8x80x1, .f32⟩
  | 122 => ⟨S8x80x200x1, .f32⟩
  | 123 => ⟨S8x80x200, .f32⟩
  | 124 => ⟨S8x80x200, .f32⟩
  | 125 => ⟨S8x80x200, .f32⟩
  | 126 => ⟨S8x80x200, .f32⟩
  | 127 => ⟨S_, .f32⟩
  | _ => ⟨S8x64x64x3x4, .f32⟩

abbrev hbmTy0_1 (i : Nat) : BufTy := match i % 128 with
  | 0 => ⟨S8x80x200, .f32⟩
  | 1 => ⟨S8x80x200, .f32⟩
  | 2 => ⟨S8x80x200, .f32⟩
  | 3 => ⟨S_, .f32⟩
  | 4 => ⟨S8x80x200, .f32⟩
  | 5 => ⟨S8x80x200, .f32⟩
  | 6 => ⟨S8x80x200, .f32⟩
  | 7 => ⟨S8x80x1x1, .f32⟩
  | 8 => ⟨S8x80x1, .f32⟩
  | 9 => ⟨S8x80x1x1, .f32⟩
  | 10 => ⟨S8x80x1, .f32⟩
  | 11 => ⟨S8x80x1, .f32⟩
  | 12 => ⟨S_, .f32⟩
  | 13 => ⟨S8x80x1, .f32⟩
  | 14 => ⟨S8x80x1, .f32⟩
  | 15 => ⟨S8x80x1x1, .f32⟩
  | 16 => ⟨S8x80x1, .f32⟩
  | 17 => ⟨S8x80x1x1, .f32⟩
  | 18 => ⟨S8x80x1, .f32⟩
  | 19 => ⟨S8x80x1, .f32⟩
  | 20 => ⟨S_, .f32⟩
  | 21 => ⟨S8x80x1, .f32⟩
  | 22 => ⟨S8x80x1, .f32⟩
  | 23 => ⟨S8x80x1, .f32⟩
  | 24 => ⟨S8x80x200x1, .f32⟩
  | 25 => ⟨S8x80x200, .f32⟩
  | 26 => ⟨S8x80x200x1, .f32⟩
  | 27 => ⟨S8x80x200, .f32⟩
  | 28 => ⟨S8x80x200, .f32⟩
  | 29 => ⟨S_, .f32⟩
  | 30 => ⟨S8x80x200, .f32⟩
  | 31 => ⟨S8x80x200, .f32⟩
  | 32 => ⟨S8x80x200x1, .f32⟩
  | 33 => ⟨S8x80x200, .f32⟩
  | 34 => ⟨S8x80x200x1, .f32⟩
  | 35 => ⟨S8x80x200, .f32⟩
  | 36 => ⟨S8x80x200, .f32⟩
  | 37 => ⟨S_, .f32⟩
  | 38 => ⟨S8x80x200, .f32⟩
  | 39 => ⟨S8x80x200, .f32⟩
  | 40 => ⟨S8x80x200, .f32⟩
  | 41 => ⟨S8x80x200, .f32⟩
  | 42 => ⟨S8x80x200, .f32⟩
  | 43 => ⟨S8x80x200, .f32⟩
  | 44 => ⟨S_, .f32⟩
  | 45 => ⟨S8x80x200, .f32⟩
  | 46 => ⟨S8x80x200, .f32⟩
  | 47 => ⟨S8x80x200, .f32⟩
  | 48 => ⟨S_, .f32⟩
  | 49 => ⟨S8x80x200, .f32⟩
  | 50 => ⟨S8x80x200, .i1⟩
  | 51 => ⟨S8x80x1, .i32⟩
  | 52 => ⟨S1x1x200, .i32⟩
  | 53 => ⟨S8x80x200, .i32⟩
  | 54 => ⟨S8x80x200, .i32⟩
  | 55 => ⟨S8x80x200, .i1⟩
  | 56 => ⟨S8x80x200, .i1⟩
  | 57 => ⟨S_, .f32⟩
  | 58 => ⟨S_, .f32⟩
  | 59 => ⟨S8x80x200, .f32⟩
  | 60 => ⟨S8x80x200, .f32⟩
  | 61 => ⟨S_, .i32⟩
  | 62 => ⟨S_, .i32⟩
  | 63 => ⟨S80, .f32⟩
  | 64 => ⟨S80x1, .f32⟩
  | 65 => ⟨S8x80x100, .f32⟩
  | 66 => ⟨S8x8000, .f32⟩
  | 67 => ⟨S8x8000x4, .f32⟩
  | 68 => ⟨S8x8000, .f32⟩
  | 69 => ⟨S8x100, .f32⟩
  | 70 => ⟨S8x100, .i32⟩
  | 71 => ⟨S8x100x1, .i32⟩
  | 72 => ⟨S8x100x4, .f32⟩
  | 73 => ⟨S8x100x1, .i32⟩
  | 74 => ⟨S8x100, .f32⟩
  | 75 => ⟨S_, .f32⟩
  | 76 => ⟨S8x100, .f32⟩
  | 77 => ⟨S8x100, .i1⟩
  | 78 => ⟨S_, .f32⟩
  | 79 => ⟨S_, .f32⟩
  | 80 => ⟨S8x100, .f32⟩
  | 81 => ⟨S8x100, .f32⟩
  | 82 => ⟨S8x100x1, .i1⟩
  | 83 => ⟨S_, .f32⟩
  | 84 => ⟨S_, .f32⟩
  | 85 => ⟨S8x100x4, .i1⟩
  | 86 => ⟨S8x100x4, .f32⟩
  | 87 => ⟨S8x100x4, .f32⟩
  | 88 => ⟨S_, .f32⟩
  | 89 => ⟨S_, .f32⟩
  | 90 => ⟨S8x100, .f32⟩
  | 91 => ⟨S8x100, .f32⟩
  | 92 => ⟨S8x100, .i32⟩
  | 93 => ⟨S_, .i32⟩
  | 94 => ⟨S8, .i32⟩
  | _ => ⟨S8x64x64x3x4, .f32⟩

abbrev hbmTy (i : Nat) : BufTy := match i / 128 with
  | 0 => hbmTy0_0 i
  | 1 => hbmTy0_1 i
  | _ => ⟨S8x64x64x3x4, .f32⟩

abbrev bufTy : (tb : Table) → Fin (tcTables nBuf tb) → BufTy
  | .hbm, ⟨i, _⟩ => hbmTy i
  | _, _ => ⟨S8x64x64x3x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_values : Ref sig .tc := ⟨.hbm, 30, rfl⟩
abbrev main_indices : Ref sig .tc := ⟨.hbm, 31, rfl⟩
abbrev main_call0_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_c : Ref sig .tc := ⟨.hbm, 40, rfl⟩
abbrev main_c_3 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev main_v24_7 : Ref sig .tc := ⟨.hbm, 49, rfl⟩
abbrev main_while0c_c_18 : Ref sig .tc := ⟨.hbm, 50, rfl⟩
abbrev main_while0c_v41 : Ref sig .tc := ⟨.hbm, 51, rfl⟩
abbrev main_while0b_c_18 : Ref sig .tc := ⟨.hbm, 52, rfl⟩
abbrev main_while0b_v41 : Ref sig .tc := ⟨.hbm, 53, rfl⟩
abbrev main_while0b_cst_19 : Ref sig .tc := ⟨.hbm, 54, rfl⟩
abbrev main_while0b_v42 : Ref sig .tc := ⟨.hbm, 55, rfl⟩
abbrev main_while0b_v43 : Ref sig .tc := ⟨.hbm, 56, rfl⟩
abbrev main_while0b_v44 : Ref sig .tc := ⟨.hbm, 57, rfl⟩
abbrev main_while0b_v45 : Ref sig .tc := ⟨.hbm, 58, rfl⟩
abbrev main_while0b_c_20 : Ref sig .tc := ⟨.hbm, 59, rfl⟩
abbrev main_while0b_call1_v0 : Ref sig .tc := ⟨.hbm, 60, rfl⟩
abbrev main_while0b_call1_v1 : Ref sig .tc := ⟨.hbm, 61, rfl⟩
abbrev main_while0b_call1_v2 : Ref sig .tc := ⟨.hbm, 62, rfl⟩
abbrev main_while0b_v46 : Ref sig .tc := ⟨.hbm, 63, rfl⟩
abbrev main_while0b_c_21 : Ref sig .tc := ⟨.hbm, 64, rfl⟩
abbrev main_while0b_v47 : Ref sig .tc := ⟨.hbm, 65, rfl⟩
abbrev main_while0b_cst_22 : Ref sig .tc := ⟨.hbm, 66, rfl⟩
abbrev main_while0b_v48 : Ref sig .tc := ⟨.hbm, 67, rfl⟩
abbrev main_while0b_v49 : Ref sig .tc := ⟨.hbm, 68, rfl⟩
abbrev main_while0b_v50 : Ref sig .tc := ⟨.hbm, 69, rfl⟩
abbrev main_while0b_call2_c : Ref sig .tc := ⟨.hbm, 70, rfl⟩
abbrev main_while0b_call2_v0 : Ref sig .tc := ⟨.hbm, 71, rfl⟩
abbrev main_while0b_call2_v1 : Ref sig .tc := ⟨.hbm, 72, rfl⟩
abbrev main_while0b_call2_c_0 : Ref sig .tc := ⟨.hbm, 73, rfl⟩
abbrev main_while0b_call2_v2 : Ref sig .tc := ⟨.hbm, 74, rfl⟩
abbrev main_while0b_call2_v3 : Ref sig .tc := ⟨.hbm, 75, rfl⟩
abbrev main_while0b_call2_v4 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_cst_23 : Ref sig .tc := ⟨.hbm, 81, rfl⟩
abbrev main_while0b_call3_v0 : Ref sig .tc := ⟨.hbm, 82, rfl⟩
abbrev main_while0b_call3_v1 : Ref sig .tc := ⟨.hbm, 83, rfl⟩
abbrev main_while0b_v55 : Ref sig .tc := ⟨.hbm, 84, rfl⟩
abbrev main_while0b_v56 : Ref sig .tc := ⟨.hbm, 85, rfl⟩
abbrev main_while0b_call4_v0 : Ref sig .tc := ⟨.hbm, 86, rfl⟩
abbrev main_while0b_call4_v1 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_v61 : Ref sig .tc := ⟨.hbm, 92, rfl⟩
abbrev main_while0b_v62 : Ref sig .tc := ⟨.hbm, 93, rfl⟩
abbrev main_while0b_cst_24 : Ref sig .tc := ⟨.hbm, 94, rfl⟩
abbrev main_while0b_call5_v0 : Ref sig .tc := ⟨.hbm, 95, rfl⟩
abbrev main_while0b_call5_v1 : Ref sig .tc := ⟨.hbm, 96, rfl⟩
abbrev main_while0b_call5_v2 : Ref sig .tc := ⟨.hbm, 97, rfl⟩
abbrev main_while0b_v63 : Ref sig .tc := ⟨.hbm, 98, rfl⟩
abbrev main_while0b_call6_v0 : Ref sig .tc := ⟨.hbm, 99, rfl⟩
abbrev main_while0b_call6_v1 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_v74 : Ref sig .tc := ⟨.hbm, 111, rfl⟩
abbrev main_while0b_v75 : Ref sig .tc := ⟨.hbm, 112, rfl⟩
abbrev main_while0b_v76 : Ref sig .tc := ⟨.hbm, 113, rfl⟩
abbrev main_while0b_v77 : Ref sig .tc := ⟨.hbm, 114, rfl⟩
abbrev main_while0b_v78 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_cst_25 : Ref sig .tc := ⟨.hbm, 127, rfl⟩
abbrev main_while0b_v90 : Ref sig .tc := ⟨.hbm, 128, rfl⟩
abbrev main_while0b_v91 : Ref sig .tc := ⟨.hbm, 129, rfl⟩
abbrev main_while0b_v92 : Ref sig .tc := ⟨.hbm, 130, rfl⟩
abbrev main_while0b_cst_26 : Ref sig .tc := ⟨.hbm, 131, rfl⟩
abbrev main_while0b_v93 : Ref sig .tc := ⟨.hbm, 132, rfl⟩
abbrev main_while0b_v94 : Ref sig .tc := ⟨.hbm, 133, rfl⟩
abbrev main_while0b_v95 : Ref sig .tc := ⟨.hbm, 134, rfl⟩
abbrev main_while0b_v96 : Ref sig .tc := ⟨.hbm, 135, rfl⟩
abbrev main_while0b_v97 : Ref sig .tc := ⟨.hbm, 136, rfl⟩
abbrev main_while0b_v98 : Ref sig .tc := ⟨.hbm, 137, rfl⟩
abbrev main_while0b_v99 : Ref sig .tc := ⟨.hbm, 138, rfl⟩
abbrev main_while0b_v100 : Ref sig .tc := ⟨.hbm, 139, rfl⟩
abbrev main_while0b_cst_27 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_cst_28 : Ref sig .tc := ⟨.hbm, 148, rfl⟩
abbrev main_while0b_v108 : Ref sig .tc := ⟨.hbm, 149, rfl⟩
abbrev main_while0b_v109 : Ref sig .tc := ⟨.hbm, 150, rfl⟩
abbrev main_while0b_v110 : Ref sig .tc := ⟨.hbm, 151, rfl⟩
abbrev main_while0b_v111 : Ref sig .tc := ⟨.hbm, 152, rfl⟩
abbrev main_while0b_v112 : Ref sig .tc := ⟨.hbm, 153, rfl⟩
abbrev main_while0b_v113 : Ref sig .tc := ⟨.hbm, 154, rfl⟩
abbrev main_while0b_v114 : Ref sig .tc := ⟨.hbm, 155, rfl⟩
abbrev main_while0b_v115 : Ref sig .tc := ⟨.hbm, 156, rfl⟩
abbrev main_while0b_cst_29 : Ref sig .tc := ⟨.hbm, 157, rfl⟩
abbrev main_while0b_v116 : Ref sig .tc := ⟨.hbm, 158, rfl⟩
abbrev main_while0b_v117 : Ref sig .tc := ⟨.hbm, 159, rfl⟩
abbrev main_while0b_v118 : Ref sig .tc := ⟨.hbm, 160, rfl⟩
abbrev main_while0b_v119 : Ref sig .tc := ⟨.hbm, 161, rfl⟩
abbrev main_while0b_v120 : Ref sig .tc := ⟨.hbm, 162, rfl⟩
abbrev main_while0b_v121 : Ref sig .tc := ⟨.hbm, 163, rfl⟩
abbrev main_while0b_v122 : Ref sig .tc := ⟨.hbm, 164, rfl⟩
abbrev main_while0b_cst_30 : Ref sig .tc := ⟨.hbm, 165, rfl⟩
abbrev main_while0b_v123 : Ref sig .tc := ⟨.hbm, 166, rfl⟩
abbrev main_while0b_v124 : Ref sig .tc := ⟨.hbm, 167, rfl⟩
abbrev main_while0b_v125 : Ref sig .tc := ⟨.hbm, 168, rfl⟩
abbrev main_while0b_v126 : Ref sig .tc := ⟨.hbm, 169, rfl⟩
abbrev main_while0b_v127 : Ref sig .tc := ⟨.hbm, 170, rfl⟩
abbrev main_while0b_v128 : Ref sig .tc := ⟨.hbm, 171, rfl⟩
abbrev main_while0b_cst_31 : Ref sig .tc := ⟨.hbm, 172, rfl⟩
abbrev main_while0b_v129 : Ref sig .tc := ⟨.hbm, 173, rfl⟩
abbrev main_while0b_v130 : Ref sig .tc := ⟨.hbm, 174, rfl⟩
abbrev main_while0b_v131 : Ref sig .tc := ⟨.hbm, 175, rfl⟩
abbrev main_while0b_cst_32 : Ref sig .tc := ⟨.hbm, 176, rfl⟩
abbrev main_while0b_v132 : Ref sig .tc := ⟨.hbm, 177, rfl⟩
abbrev main_while0b_v133 : Ref sig .tc := ⟨.hbm, 178, rfl⟩
abbrev main_while0b_v134 : Ref sig .tc := ⟨.hbm, 179, rfl⟩
abbrev main_while0b_v135 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_cst_33 : Ref sig .tc := ⟨.hbm, 185, rfl⟩
abbrev main_while0b_call7_v0 : Ref sig .tc := ⟨.hbm, 186, rfl⟩
abbrev main_while0b_call7_v1 : Ref sig .tc := ⟨.hbm, 187, rfl⟩
abbrev main_while0b_v140 : Ref sig .tc := ⟨.hbm, 188, rfl⟩
abbrev main_while0b_c_34 : Ref sig .tc := ⟨.hbm, 189, rfl⟩
abbrev main_while0b_v141 : Ref sig .tc := ⟨.hbm, 190, rfl⟩
abbrev main_v25 : Ref sig .tc := ⟨.hbm, 191, rfl⟩
abbrev main_v26 : Ref sig .tc := ⟨.hbm, 192, rfl⟩
abbrev main_v27 : Ref sig .tc := ⟨.hbm, 193, rfl⟩
abbrev main_v28 : Ref sig .tc := ⟨.hbm, 194, rfl⟩
abbrev main_v29 : Ref sig .tc := ⟨.hbm, 195, rfl⟩
abbrev main_v30 : Ref sig .tc := ⟨.hbm, 196, rfl⟩
abbrev main_values_4 : Ref sig .tc := ⟨.hbm, 197, rfl⟩
abbrev main_indices_5 : Ref sig .tc := ⟨.hbm, 198, rfl⟩
abbrev main_call8_v0 : Ref sig .tc := ⟨.hbm, 199, rfl⟩
abbrev main_v31 : Ref sig .tc := ⟨.hbm, 200, rfl⟩
abbrev main_call9_v0 : Ref sig .tc := ⟨.hbm, 201, rfl⟩
abbrev main_v32 : Ref sig .tc := ⟨.hbm, 202, rfl⟩
abbrev main_cst_6 : Ref sig .tc := ⟨.hbm, 203, rfl⟩
abbrev main_v33 : Ref sig .tc := ⟨.hbm, 204, rfl⟩
abbrev main_v34 : Ref sig .tc := ⟨.hbm, 205, rfl⟩
abbrev main_cst_7 : Ref sig .tc := ⟨.hbm, 206, rfl⟩
abbrev main_call10_v0 : Ref sig .tc := ⟨.hbm, 207, rfl⟩
abbrev main_call10_v1 : Ref sig .tc := ⟨.hbm, 208, rfl⟩
abbrev main_v35 : Ref sig .tc := ⟨.hbm, 209, rfl⟩
abbrev main_v36 : Ref sig .tc := ⟨.hbm, 210, rfl⟩
abbrev main_cst_8 : Ref sig .tc := ⟨.hbm, 211, rfl⟩
abbrev main_call11_v0 : Ref sig .tc := ⟨.hbm, 212, rfl⟩
abbrev main_call11_v1 : Ref sig .tc := ⟨.hbm, 213, rfl⟩
abbrev main_call11_v2 : Ref sig .tc := ⟨.hbm, 214, rfl⟩
abbrev main_v37 : Ref sig .tc := ⟨.hbm, 215, rfl⟩
abbrev main_cst_9 : Ref sig .tc := ⟨.hbm, 216, rfl⟩
abbrev main_call12_v0 : Ref sig .tc := ⟨.hbm, 217, rfl⟩
abbrev main_call12_v1 : Ref sig .tc := ⟨.hbm, 218, rfl⟩
abbrev main_v38 : Ref sig .tc := ⟨.hbm, 219, rfl⟩
abbrev main_v39 : Ref sig .tc := ⟨.hbm, 220, rfl⟩
abbrev main_c_10 : Ref sig .tc := ⟨.hbm, 221, rfl⟩
abbrev main_v40 : Ref sig .tc := ⟨.hbm, 222, rfl⟩

abbrev nD : Nat := 1
abbrev τ : Topo := Topo.v7x

variable {F : FTy → Type} [FloatOps F]

abbrev main_while0_count : Scf.Loop 32 := ⟨0#32, 100#32, 1#32⟩
-- ==== Proof.Nms.KernelIdeal.Stage1.lean ====
/- The first kernel's body as data: one class's bisection step and greedy step, and the two counted loops
   over sixteen classes as sixteen independent folds of them. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

set_option maxRecDepth 65536

noncomputable section

namespace Cert.KernelIdeal.Nms

open Cert.KernelIdeal.Gen
open Idealize.ShloMosaic Idealize.ShloMosaic.Tactic Idealize.SL.Sem

variable {F : FTy → Type} [FloatOps F]

/-- Functions agreeing with a step through an encoding fold alike. -/
theorem fold_encode {n : ℕ} {σ ι : Type} {τ : ι → Type} (pack : ((j : ι) → τ j) → σ) (g : Fin n → σ → σ)
    (h : (j : ι) → Fin n → τ j → τ j) (hg : ∀ k x, g k (pack x) = pack fun j => h j k (x j)) (x : (j : ι) → τ j) :
    Scf.fold g (pack x) = pack fun j => Scf.fold (h j) (x j) := by
  simp only [Scf.fold_eq]
  generalize List.finRange n = l
  induction l generalizing x with
  | nil => rfl
  | cons k l ih => simp only [List.foldl_cons, hg]; exact ih _

/-! ## The bisection -/

/-- The middle of an interval. -/
def bisMid (p : F .f32 × F .f32) : F .f32 := Scalar.mulf (Scalar.ofBits .f32 0x3F000000#32) (Scalar.addf p.1 p.2)

/-- How many scores are at least `t`. -/
def countGe (s0 : FVec F S126x128 .f32) (t : F .f32) : BitVec 32 :=
  extractAt ![0, 0, 0] (shapeCast S1x1x1 (multiReductionI .add [1, 2] S1 (shapeCast S1x126x128 (extui 32
    (cmpf .oge s0 (broadcast S126x128 t)) natLt_1_32) shapeCasts_S126x128_S1x126x128) 0#32 reduces_S1x126x128_S1 rfl)
    shapeCasts_S1_S1x1x1) inpos_S1x1x1_p0_0_0

/-- One step: the lower half if fewer than 200 scores reach the middle, else the upper half. -/
def bisStep (s0 : FVec F S126x128 .f32) (p : F .f32 × F .f32) : F .f32 × F .f32 :=
  (Scalar.select (Scalar.cmpi .sge (countGe s0 (bisMid p)) 200#32) (bisMid p) p.1,
   Scalar.select (Scalar.cmpi .sge (countGe s0 (bisMid p)) 200#32) p.2 (bisMid p))

/-- The interval after all steps. -/
def bisEnd (s0 : FVec F S126x128 .f32) (l h : F .f32) : F .f32 × F .f32 :=
  Scf.fold (n := k0_t1_loop.trips) (fun _ => bisStep s0) (l, h)

/-- The scores that reach the threshold found. -/
def cut (s0 : FVec F S126x128 .f32) (t : F .f32) : FVec F S126x128 .f32 :=
  select (cmpf .oge s0 (broadcast S126x128 t)) s0 (broadcast S126x128 (Scalar.ofBits .f32 0xBF800000#32))

/-! ## The greedy selection -/

/-- A class's state: the scores left, the selected scores and the four selected coordinates. -/
abbrev ClassSt (F : FTy → Type) [FloatOps F] : Type :=
  FVec F S126x128 .f32 × FVec F S1x128 .f32 × FVec F S1x128 .f32 × FVec F S1x128 .f32 × FVec F S1x128 .f32
    × FVec F S1x128 .f32

/-- The lanes: one at lane `k`, zero elsewhere. -/
def pick (lane : IVec S1x128 32) (k : Fin k0_t2_loop.trips) : FVec F S1x128 .f32 :=
  sitofp .f32 (extui 32 (cmpi .eq lane (broadcast S1x128 (Scf.iv 0#32 1#32 k))) natLt_1_32)

/-- The largest score left. -/
def smax (s : FVec F S126x128 .f32) : F .f32 :=
  extractAt ![0, 0, 0] (shapeCast S1x1x1 (multiReduction .maximumf [1, 2] S1 (shapeCast S1x126x128 s
    shapeCasts_S126x128_S1x126x128) 0xFF800000#32 reduces_S1x126x128_S1 (.inl rfl) rfl) shapeCasts_S1_S1x1x1)
    inpos_S1x1x1_p0_0_0

/-- One where the score is the largest, zero elsewhere. -/
def oneHot (s : FVec F S126x128 .f32) : FVec F S126x128 .f32 :=
  sitofp .f32 (extui 32 (cmpf .oeq s (broadcast S126x128 (smax s))) natLt_1_32)

/-- The sum of all entries of a product. -/
def dotAll (a b : FVec F S126x128 .f32) : F .f32 :=
  extractAt ![0, 0, 0] (shapeCast S1x1x1 (multiReduction .add [1, 2] S1 (shapeCast S1x126x128 (mulf a b)
    shapeCasts_S126x128_S1x126x128) 0x00000000#32 reduces_S1x126x128_S1 (.inl rfl) rfl) shapeCasts_S1_S1x1x1)
    inpos_S1x1x1_p0_0_0

/-- The zero scalar and the zero image. -/
abbrev z0 : F .f32 := Scalar.ofBits .f32 0x00000000#32
abbrev zI : FVec F S126x128 .f32 := broadcast S126x128 (z0 (F := F))

/-- The intersection of every box with the box `(a, b, c, d)`. -/
def interV (y1 x1 y2 x2 : FVec F S126x128 .f32) (a b c d : F .f32) : FVec F S126x128 .f32 :=
  mulf (maximumf (subf (minimumf y2 (broadcast S126x128 c)) (maximumf y1 (broadcast S126x128 a))) zI)
    (maximumf (subf (minimumf x2 (broadcast S126x128 d)) (maximumf x1 (broadcast S126x128 b))) zI)

/-- Every box's overlap with the box `(a, b, c, d)`. -/
def iouV (y1 x1 y2 x2 : FVec F S126x128 .f32) (a b c d : F .f32) : FVec F S126x128 .f32 :=
  divf (interV y1 x1 y2 x2 a b c d)
    (maximumf (subf (addf (mulf (maximumf (subf y2 y1) zI) (maximumf (subf x2 x1) zI))
        (broadcast S126x128 (Scalar.mulf (Scalar.maximumf (Scalar.subf c a) z0) (Scalar.maximumf (Scalar.subf d b) z0))))
        (interV y1 x1 y2 x2 a b c d))
      (broadcast S126x128 (Scalar.ofBits .f32 0x3089705F#32)))

/-- A lane row with `v`, if there is a score left, put at lane `k`. -/
def putLane (lane : IVec S1x128 32) (k : Fin k0_t2_loop.trips) (s : FVec F S126x128 .f32) (v : F .f32)
    (o : FVec F S1x128 .f32) : FVec F S1x128 .f32 :=
  addf o (mulf (broadcast S1x128 (Scalar.select (Scalar.cmpf .ogt (smax s) z0) v z0)) (pick lane k))

/-- One selection of one class. -/
def nmsStep (y1 x1 y2 x2 : FVec F S126x128 .f32) (lane : IVec S1x128 32) (k : Fin k0_t2_loop.trips) (x : ClassSt F) :
    ClassSt F :=
  (select (ori (cmpf .ogt (iouV y1 x1 y2 x2 (dotAll (oneHot x.1) y1) (dotAll (oneHot x.1) x1) (dotAll (oneHot x.1) y2)
        (dotAll (oneHot x.1) x2)) (broadcast S126x128 (Scalar.ofBits .f32 0x3F000000#32)))
      (cmpf .ogt (oneHot x.1) zI)) (broadcast S126x128 (Scalar.ofBits .f32 0xBF800000#32)) x.1,
   putLane lane k x.1 (smax x.1) x.2.1,
   putLane lane k x.1 (dotAll (oneHot x.1) y1) x.2.2.1,
   putLane lane k x.1 (dotAll (oneHot x.1) x1) x.2.2.2.1,
   putLane lane k x.1 (dotAll (oneHot x.1) y2) x.2.2.2.2.1,
   putLane lane k x.1 (dotAll (oneHot x.1) x2) x.2.2.2.2.2)

/-- A class's state after all selections, from its scores. -/
def classEnd (y1 x1 y2 x2 : FVec F S126x128 .f32) (lane : IVec S1x128 32) (s : FVec F S126x128 .f32) : ClassSt F :=
  Scf.fold (n := k0_t2_loop.trips) (nmsStep y1 x1 y2 x2 lane)
    (s, k0_pay321 (F := F), k0_pay321 (F := F), k0_pay321 (F := F), k0_pay321 (F := F), k0_pay321 (F := F))

/-! ## The loops' tuples -/

/-- Sixteen intervals as the first loop carries them. -/
def pack32 (x : Fin 16 → F .f32 × F .f32) : F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 :=
  ((x 0).1, (x 1).1, (x 2).1, (x 3).1, (x 4).1, (x 5).1, (x 6).1, (x 7).1, (x 8).1, (x 9).1, (x 10).1, (x 11).1, (x 12).1, (x 13).1, (x 14).1, (x 15).1, (x 0).2, (x 1).2, (x 2).2, (x 3).2, (x 4).2, (x 5).2, (x 6).2, (x 7).2, (x 8).2, (x 9).2, (x 10).2, (x 11).2, (x 12).2, (x 13).2, (x 14).2, (x 15).2)

/-- Sixteen states as the second loop carries them. -/
def pack96 (x : Fin 16 → ClassSt F) : FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 :=
  ((x 0).1, (x 1).1, (x 2).1, (x 3).1, (x 4).1, (x 5).1, (x 6).1, (x 7).1, (x 8).1, (x 9).1, (x 10).1, (x 11).1, (x 12).1, (x 13).1, (x 14).1, (x 15).1, (x 0).2.1, (x 1).2.1, (x 2).2.1, (x 3).2.1, (x 4).2.1, (x 5).2.1, (x 6).2.1, (x 7).2.1, (x 8).2.1, (x 9).2.1, (x 10).2.1, (x 11).2.1, (x 12).2.1, (x 13).2.1, (x 14).2.1, (x 15).2.1, (x 0).2.2.1, (x 0).2.2.2.1, (x 0).2.2.2.2.1, (x 0).2.2.2.2.2, (x 1).2.2.1, (x 1).2.2.2.1, (x 1).2.2.2.2.1, (x 1).2.2.2.2.2, (x 2).2.2.1, (x 2).2.2.2.1, (x 2).2.2.2.2.1, (x 2).2.2.2.2.2, (x 3).2.2.1, (x 3).2.2.2.1, (x 3).2.2.2.2.1, (x 3).2.2.2.2.2, (x 4).2.2.1, (x 4).2.2.2.1, (x 4).2.2.2.2.1, (x 4).2.2.2.2.2, (x 5).2.2.1, (x 5).2.2.2.1, (x 5).2.2.2.2.1, (x 5).2.2.2.2.2, (x 6).2.2.1, (x 6).2.2.2.1, (x 6).2.2.2.2.1, (x 6).2.2.2.2.2, (x 7).2.2.1, (x 7).2.2.2.1, (x 7).2.2.2.2.1, (x 7).2.2.2.2.2, (x 8).2.2.1, (x 8).2.2.2.1, (x 8).2.2.2.2.1, (x 8).2.2.2.2.2, (x 9).2.2.1, (x 9).2.2.2.1, (x 9).2.2.2.2.1, (x 9).2.2.2.2.2, (x 10).2.2.1, (x 10).2.2.2.1, (x 10).2.2.2.2.1, (x 10).2.2.2.2.2, (x 11).2.2.1, (x 11).2.2.2.1, (x 11).2.2.2.2.1, (x 11).2.2.2.2.2, (x 12).2.2.1, (x 12).2.2.2.1, (x 12).2.2.2.2.1, (x 12).2.2.2.2.2, (x 13).2.2.1, (x 13).2.2.2.1, (x 13).2.2.2.2.1, (x 13).2.2.2.2.2, (x 14).2.2.1, (x 14).2.2.2.1, (x 14).2.2.2.2.1, (x 14).2.2.2.2.2, (x 15).2.2.1, (x 15).2.2.2.1, (x 15).2.2.2.2.1, (x 15).2.2.2.2.2)

/-- A trip of the first loop is a bisection step of every class. -/
theorem t1_body_eq (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole) (s : Fin 16 → FVec F S126x128 .f32) (c : Fin 32 → F .f32) (k : Fin k0_t1_loop.trips) (x : Fin 16 → F .f32 × F .f32) :
    k0_t1_body i arg2 harg2 arg3 harg3 arg4 harg4 arg5 harg5 arg6 harg6 (s 0) (s 1) (s 2) (s 3) (s 4) (s 5) (s 6) (s 7) (s 8) (s 9) (s 10) (s 11) (s 12) (s 13) (s 14) (s 15) (c 0) (c 1) (c 2) (c 3) (c 4) (c 5) (c 6) (c 7) (c 8) (c 9) (c 10) (c 11) (c 12) (c 13) (c 14) (c 15) (c 16) (c 17) (c 18) (c 19) (c 20) (c 21) (c 22) (c 23) (c 24) (c 25) (c 26) (c 27) (c 28) (c 29) (c 30) (c 31) 0#32 k (pack32 x)
      = .ret (pack32 fun j => bisStep (s j) (x j)) := by sl_kernel_rfl

/-- A trip of the second loop is a selection of every class. -/
theorem t2_body_eq (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole) (v121 : FVec F S126x128 .f32) (v131 : FVec F S126x128 .f32) (v141 : FVec F S126x128 .f32) (v151 : FVec F S126x128 .f32) (v161 : FVec F S126x128 .f32) (v163_12 : F .f32) (v163_13 : F .f32) (v163_14 : F .f32) (v163_15 : F .f32) (v167 : FVec F S126x128 .f32) (v171 : FVec F S126x128 .f32) (v175 : FVec F S126x128 .f32) (v179 : FVec F S126x128 .f32) (v183 : FVec F S126x128 .f32) (v187 : FVec F S126x128 .f32) (v191 : FVec F S126x128 .f32) (v195 : FVec F S126x128 .f32) (v199 : FVec F S126x128 .f32) (v203 : FVec F S126x128 .f32) (v207 : FVec F S126x128 .f32) (v208 : FVec F S126x128 .f32) (v228 : Vec F S1x1x126x128 .f32) (v230 : Vec F S1x1x126x128 .f32) (v232 : Vec F S1x1x126x128 .f32) (v234 : Vec F S1x1x126x128 .f32) (v236 : IVec S1x128 32) (k : Fin k0_t2_loop.trips) (x : Fin 16 → ClassSt F) :
    k0_t2_body i arg2 harg2 arg3 harg3 arg4 harg4 arg5 harg5 arg6 harg6 v121 v131 v141 v151 v161 v163_12 v163_13 v163_14 v163_15 v167 v171 v175 v179 v183 v187 v191 v195 v199 v203 v207 v208 v228 v230 v232 v234 v236 k (pack96 x)
      = .ret (pack96 fun j => nmsStep (k0_pay317 v228) (k0_pay318 v230) (k0_pay319 v232) (k0_pay320 v234) v236 k (x j)) := by sl_kernel_rfl

end Cert.KernelIdeal.Nms

end
-- ==== Proof.Nms.KernelIdeal.Parts.lean ====
/- The two counted loops of the first kernel, as the returns of folds. -/
module

public import proofs.«01_k».proof.Proof.Nms.KernelIdeal.Stage1

@[expose] public section

set_option maxRecDepth 65536

noncomputable section

namespace Cert.KernelIdeal.Nms

open Cert.KernelIdeal.Gen
open Idealize.ShloMosaic Idealize.ShloMosaic.Tactic Idealize.SL.Sem

variable {F : FTy → Type} [FloatOps F]

/-- The intervals of a tuple. -/
def unpack32 (a : F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32) : Fin 16 → F .f32 × F .f32 :=
  ![(a.1, a.2.2.2.2.2.2.2.2.2.2.2.2.2.2.2.2.1), (a.2.1, a.2.2.2.2.2.2.2.2.2.2.2.2.2.2.2.2.2.1), (a.2.2.1, a.2.2.2.2.2.2.2.2.2.2.2.2.2.2.2.2.2.2.1), (a.2.2.2.1, a.2.2.2.2.2.2.2.2.2.2.2.2.2.2.2.2.2.2.2.1), (a.2.2.2.2.1, a.2.2.2.2.2.2.2.2.2.2.2.2.2.2.2.2.2.2.2.2.1), (a.2.2.2.2.2.1, a.2.2.2.2.2.2.2.2.2.2.2.2.2.2.2.2.2.2.2.2.2.1), (a.2.2.2.2.2.2.1, a.2.2.2.2.2.2.2.2.2.2.2.2.2.2.2.2.2.2.2.2.2.2.1), (a.2.2.2.2.2.2.2.1, a.2.2.2.2.2.2.2.2.2.2.2.2.2.2.2.2.2.2.2.2.2.2.2.1), (a.2.2.2.2.2.2.2.2.1, a.2.2.2.2.2.2.2.2.2.2.2.2.2.2.2.2.2.2.2.2.2.2.2.2.1), (a.2.2.2.2.2.2.2.2.2.1, a.2.2.2.2.2.2.2.2.2.2.2.2.2.2.2.2.2.2.2.2.2.2.2.2.2.1), (a.2.2.2.2.2.2.2.2.2.2.1, a.2.2.2.2.2.2.2.2.2.2.2.2.2.2.2.2.2.2.2.2.2.2.2.2.2.2.1), (a.2.2.2.2.2.2.2.2.2.2.2.1, a.2.2.2.2.2.2.2.2.2.2.2.2.2.2.2.2.2.2.2.2.2.2.2.2.2.2.2.1), (a.2.2.2.2.2.2.2.2.2.2.2.2.1, a.2.2.2.2.2.2.2.2.2.2.2.2.2.2.2.2.2.2.2.2.2.2.2.2.2.2.2.2.1), (a.2.2.2.2.2.2.2.2.2.2.2.2.2.1, a.2.2.2.2.2.2.2.2.2.2.2.2.2.2.2.2.2.2.2.2.2.2.2.2.2.2.2.2.2.1), (a.2.2.2.2.2.2.2.2.2.2.2.2.2.2.1, a.2.2.2.2.2.2.2.2.2.2.2.2.2.2.2.2.2.2.2.2.2.2.2.2.2.2.2.2.2.2.1), (a.2.2.2.2.2.2.2.2.2.2.2.2.2.2.2.1, a.2.2.2.2.2.2.2.2.2.2.2.2.2.2.2.2.2.2.2.2.2.2.2.2.2.2.2.2.2.2.2)]

/-- The states of a tuple. -/
def unpack96 (a : FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32) : Fin 16 → ClassSt F :=
  ![(a.1, a.2.2.2.2.2.2.2.2.2.2.2.2.2.2.2.2.1, a.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.1), (a.2.1, a.2.2.2.2.2.2.2.2.2.2.2.2.2.2.2.2.2.1, a.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.1), (a.2.2.1, a.2.2.2.2.2.2.2.2.2.2.2.2.2.2.2.2.2.2.1, a.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.1), (a.2.2.2.1, a.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.1), (a.2.2.2.2.1, a.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.1), (a.2.2.2.2.2.1, a.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.1, a.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.1, a.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.1, a.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.1, a.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.1, a.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.2.1, a.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.2.2.1, a.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.2.2.2.1, a.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.2.2.2.2.1, a.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1), (a.2.2.2.2.2.2.2.2.2.2.2.2.2.2.2.1, a.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1, a.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2)]

theorem pack32_unpack32 : ∀ a : F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32 × F .f32, pack32 (unpack32 (F := F) a) = a :=
  fun (a0, a1, a2, a3, a4, a5, a6, a7, a8, a9, a10, a11, a12, a13, a14, a15, a16, a17, a18, a19, a20, a21, a22, a23, a24, a25, a26, a27, a28, a29, a30, a31) => by sl_kernel_rfl

theorem pack96_unpack96 : ∀ a : FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S126x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32 × FVec F S1x128 .f32, pack96 (unpack96 (F := F) a) = a :=
  fun (a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60, a61, a62, a63, a64, a65, a66, a67, a68, a69, a70, a71, a72, a73, a74, a75, a76, a77, a78, a79, a80, a81, a82, a83, a84, a85, a86, a87, a88, a89, a90, a91, a92, a93, a94, a95) => by sl_kernel_rfl

theorem unpack32_pack32 (x : Fin 16 → F .f32 × F .f32) : unpack32 (pack32 x) = x := by
  funext j; fin_cases j <;> sl_kernel_rfl

theorem unpack96_pack96 (x : Fin 16 → ClassSt F) : unpack96 (pack96 x) = x := by
  funext j; fin_cases j <;> sl_kernel_rfl

/-- The part with the first loop returns each class's cut scores. -/
theorem part40_eq (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole) (v11 : FVec F S126x128 .f32) (v21 : FVec F S126x128 .f32) (v31 : FVec F S126x128 .f32) (v41 : FVec F S126x128 .f32) (v51 : FVec F S126x128 .f32) (v61 : FVec F S126x128 .f32) (v71 : FVec F S126x128 .f32) (v81 : FVec F S126x128 .f32) (v91 : FVec F S126x128 .f32) (v101 : FVec F S126x128 .f32) (v111 : FVec F S126x128 .f32) (v121 : FVec F S126x128 .f32) (v131 : FVec F S126x128 .f32) (v141 : FVec F S126x128 .f32) (v151 : FVec F S126x128 .f32) (v161 : FVec F S126x128 .f32) (c0 : BitVec 32) (cst_146 : F .f32) (cst_147 : F .f32) (cst_148 : F .f32) (cst_149 : F .f32) (cst_150 : F .f32) (cst_151 : F .f32) (cst_152 : F .f32) (cst_153 : F .f32) (cst_154 : F .f32) (cst_155 : F .f32) (cst_156 : F .f32) (cst_157 : F .f32) (cst_158 : F .f32) (cst_159 : F .f32) (cst_160 : F .f32) (cst_161 : F .f32) (cst_162 : F .f32) (cst_163 : F .f32) (cst_164 : F .f32) (cst_165 : F .f32) (cst_166 : F .f32) (cst_167 : F .f32) (cst_168 : F .f32) (cst_169 : F .f32) (cst_170 : F .f32) (cst_171 : F .f32) (cst_172 : F .f32) (cst_173 : F .f32) (cst_174 : F .f32) (cst_175 : F .f32) (cst_176 : F .f32) (cst_177 : F .f32) :
    k0_part40 (F := F) i arg2 harg2 arg3 harg3 arg4 harg4 arg5 harg5 arg6 harg6 v11 v21 v31 v41 v51 v61 v71 v81 v91 v101 v111 v121 v131 v141 v151 v161 cst_146 cst_147 cst_148 cst_149 cst_150 cst_151 cst_152 cst_153 cst_154 cst_155 cst_156 cst_157 cst_158 cst_159 cst_160 cst_161 cst_162 cst_163 cst_164 cst_165 cst_166 cst_167 cst_168 cst_169 cst_170 cst_171 cst_172 cst_173 cst_174 cst_175 cst_176 cst_177 c0
      = .ret ⟨(bisEnd v131 cst_158 cst_174).1, (bisEnd v141 cst_159 cst_175).1, (bisEnd v151 cst_160 cst_176).1, (bisEnd v161 cst_161 cst_177).1, cut v11 (bisEnd v11 cst_146 cst_162).1, cut v21 (bisEnd v21 cst_147 cst_163).1, cut v31 (bisEnd v31 cst_148 cst_164).1, cut v41 (bisEnd v41 cst_149 cst_165).1, cut v51 (bisEnd v51 cst_150 cst_166).1, cut v61 (bisEnd v61 cst_151 cst_167).1, cut v71 (bisEnd v71 cst_152 cst_168).1, cut v81 (bisEnd v81 cst_153 cst_169).1, cut v91 (bisEnd v91 cst_154 cst_170).1, cut v101 (bisEnd v101 cst_155 cst_171).1, cut v111 (bisEnd v111 cst_156 cst_172).1, broadcast S126x128 (bisEnd v121 cst_157 cst_173).1⟩ := by
  rw [k0_part40_eq_skeleton]
  unfold k0_part40_skel
  refine (Scf.for_pure_bind (lb := k0_t1_loop.lb) (ub := k0_t1_loop.ub) (st := k0_t1_loop.st) (hok := k0_t1_ok)
    (init := pack32 ![(cst_146, cst_162), (cst_147, cst_163), (cst_148, cst_164), (cst_149, cst_165), (cst_150, cst_166), (cst_151, cst_167), (cst_152, cst_168), (cst_153, cst_169), (cst_154, cst_170), (cst_155, cst_171), (cst_156, cst_172), (cst_157, cst_173), (cst_158, cst_174), (cst_159, cst_175), (cst_160, cst_176), (cst_161, cst_177)])
    (g := fun _ a => pack32 fun j => bisStep (![v11, v21, v31, v41, v51, v61, v71, v81, v91, v101, v111, v121, v131, v141, v151, v161] j) (unpack32 a j)) (hg := fun k a => ?_) (k := _)).trans ?_
  · have e := t1_body_eq i arg2 harg2 arg3 harg3 arg4 harg4 arg5 harg5 arg6 harg6 ![v11, v21, v31, v41, v51, v61, v71, v81, v91, v101, v111, v121, v131, v141, v151, v161] ![cst_146, cst_147, cst_148, cst_149, cst_150, cst_151, cst_152, cst_153, cst_154, cst_155, cst_156, cst_157, cst_158, cst_159, cst_160, cst_161, cst_162, cst_163, cst_164, cst_165, cst_166, cst_167, cst_168, cst_169, cst_170, cst_171, cst_172, cst_173, cst_174, cst_175, cst_176, cst_177] k (unpack32 a)
    rw [pack32_unpack32] at e
    exact e
  · rw [fold_encode pack32 _ (fun j _ => bisStep (![v11, v21, v31, v41, v51, v61, v71, v81, v91, v101, v111, v121, v131, v141, v151, v161] j)) (fun _ x => by rw [unpack32_pack32 x])]
    sl_kernel_rfl

/-- The part with the second loop loads the boxes and returns each class's selected scores and boxes. -/
theorem part41_eq (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole) (v121 : FVec F S126x128 .f32) (v131 : FVec F S126x128 .f32) (v141 : FVec F S126x128 .f32) (v151 : FVec F S126x128 .f32) (v161 : FVec F S126x128 .f32) (v163_12 : F .f32) (v163_13 : F .f32) (v163_14 : F .f32) (v163_15 : F .f32) (v167 : FVec F S126x128 .f32) (v171 : FVec F S126x128 .f32) (v175 : FVec F S126x128 .f32) (v179 : FVec F S126x128 .f32) (v183 : FVec F S126x128 .f32) (v187 : FVec F S126x128 .f32) (v191 : FVec F S126x128 .f32) (v195 : FVec F S126x128 .f32) (v199 : FVec F S126x128 .f32) (v203 : FVec F S126x128 .f32) (v207 : FVec F S126x128 .f32) (v208 : FVec F S126x128 .f32) :
    k0_part41 (F := F) i arg2 harg2 arg3 harg3 arg4 harg4 arg5 harg5 arg6 harg6 v121 v131 v141 v151 v161 v163_12 v163_13 v163_14 v163_15 v167 v171 v175 v179 v183 v187 v191 v195 v199 v203 v207 v208
      = (do
        let v228 : Vec F S1x1x126x128 .f32 ← Prog.lift (.load arg4 (Rect.unit (s := S1x4x126x128) ![0, 0, 0, 0] S1x1x126x128.size inb_S1x4x126x128_S1x1x126x128_0_0_0_0).toLoadRect (View.loadsAt_vmem h_S1x1x126x128))
        let v230 : Vec F S1x1x126x128 .f32 ← Prog.lift (.load arg4 (Rect.unit (s := S1x4x126x128) ![0, 1, 0, 0] S1x1x126x128.size inb_S1x4x126x128_S1x1x126x128_0_1_0_0).toLoadRect (View.loadsAt_vmem h_S1x1x126x128))
        let v232 : Vec F S1x1x126x128 .f32 ← Prog.lift (.load arg4 (Rect.unit (s := S1x4x126x128) ![0, 2, 0, 0] S1x1x126x128.size inb_S1x4x126x128_S1x1x126x128_0_2_0_0).toLoadRect (View.loadsAt_vmem h_S1x1x126x128))
        let v234 : Vec F S1x1x126x128 .f32 ← Prog.lift (.load arg4 (Rect.unit (s := S1x4x126x128) ![0, 3, 0, 0] S1x1x126x128.size inb_S1x4x126x128_S1x1x126x128_0_3_0_0).toLoadRect (View.loadsAt_vmem h_S1x1x126x128))
        Prog.ret ⟨(classEnd (k0_pay317 v228) (k0_pay318 v230) (k0_pay319 v232) (k0_pay320 v234) (iota .tc S1x128 32 [1] iota_S1x128_d1_w32) v167).2.2.1, (classEnd (k0_pay317 v228) (k0_pay318 v230) (k0_pay319 v232) (k0_pay320 v234) (iota .tc S1x128 32 [1] iota_S1x128_d1_w32) v167).2.2.2.1, (classEnd (k0_pay317 v228) (k0_pay318 v230) (k0_pay319 v232) (k0_pay320 v234) (iota .tc S1x128 32 [1] iota_S1x128_d1_w32) v167).2.2.2.2.1, (classEnd (k0_pay317 v228) (k0_pay318 v230) (k0_pay319 v232) (k0_pay320 v234) (iota .tc S1x128 32 [1] iota_S1x128_d1_w32) v167).2.2.2.2.2, (classEnd (k0_pay317 v228) (k0_pay318 v230) (k0_pay319 v232) (k0_pay320 v234) (iota .tc S1x128 32 [1] iota_S1x128_d1_w32) v171).2.2.1, (classEnd (k0_pay317 v228) (k0_pay318 v230) (k0_pay319 v232) (k0_pay320 v234) (iota .tc S1x128 32 [1] iota_S1x128_d1_w32) v171).2.2.2.1, (classEnd (k0_pay317 v228) (k0_pay318 v230) (k0_pay319 v232) (k0_pay320 v234) (iota .tc S1x128 32 [1] iota_S1x128_d1_w32) v171).2.2.2.2.1, (classEnd (k0_pay317 v228) (k0_pay318 v230) (k0_pay319 v232) (k0_pay320 v234) (iota .tc S1x128 32 [1] iota_S1x128_d1_w32) v171).2.2.2.2.2, (classEnd (k0_pay317 v228) (k0_pay318 v230) (k0_pay319 v232) (k0_pay320 v234) (iota .tc S1x128 32 [1] iota_S1x128_d1_w32) v175).2.2.1, (classEnd (k0_pay317 v228) (k0_pay318 v230) (k0_pay319 v232) (k0_pay320 v234) (iota .tc S1x128 32 [1] iota_S1x128_d1_w32) v175).2.2.2.1, (classEnd (k0_pay317 v228) (k0_pay318 v230) (k0_pay319 v232) (k0_pay320 v234) (iota .tc S1x128 32 [1] iota_S1x128_d1_w32) v175).2.2.2.2.1, (classEnd (k0_pay317 v228) (k0_pay318 v230) (k0_pay319 v232) (k0_pay320 v234) (iota .tc S1x128 32 [1] iota_S1x128_d1_w32) v175).2.2.2.2.2, (classEnd (k0_pay317 v228) (k0_pay318 v230) (k0_pay319 v232) (k0_pay320 v234) (iota .tc S1x128 32 [1] iota_S1x128_d1_w32) v179).2.2.1, (classEnd (k0_pay317 v228) (k0_pay318 v230) (k0_pay319 v232) (k0_pay320 v234) (iota .tc S1x128 32 [1] iota_S1x128_d1_w32) v179).2.2.2.1, (classEnd (k0_pay317 v228) (k0_pay318 v230) (k0_pay319 v232) (k0_pay320 v234) (iota .tc S1x128 32 [1] iota_S1x128_d1_w32) v179).2.2.2.2.1, (classEnd (k0_pay317 v228) (k0_pay318 v230) (k0_pay319 v232) (k0_pay320 v234) (iota .tc S1x128 32 [1] iota_S1x128_d1_w32) v179).2.2.2.2.2, (classEnd (k0_pay317 v228) (k0_pay318 v230) (k0_pay319 v232) (k0_pay320 v234) (iota .tc S1x128 32 [1] iota_S1x128_d1_w32) v183).2.2.1, (classEnd (k0_pay317 v228) (k0_pay318 v230) (k0_pay319 v232) (k0_pay320 v234) (iota .tc S1x128 32 [1] iota_S1x128_d1_w32) v183).2.2.2.1, (classEnd (k0_pay317 v228) (k0_pay318 v230) (k0_pay319 v232) (k0_pay320 v234) (iota .tc S1x128 32 [1] iota_S1x128_d1_w32) v183).2.2.2.2.1, (classEnd (k0_pay317 v228) (k0_pay318 v230) (k0_pay319 v232) (k0_pay320 v234) (iota .tc S1x128 32 [1] iota_S1x128_d1_w32) v183).2.2.2.2.2, (classEnd (k0_pay317 v228) (k0_pay318 v230) (k0_pay319 v232) (k0_pay320 v234) (iota .tc S1x128 32 [1] iota_S1x128_d1_w32) v187).2.2.1, (classEnd (k0_pay317 v228) (k0_pay318 v230) (k0_pay319 v232) (k0_pay320 v234) (iota .tc S1x128 32 [1] iota_S1x128_d1_w32) v187).2.2.2.1, (classEnd (k0_pay317 v228) (k0_pay318 v230) (k0_pay319 v232) (k0_pay320 v234) (iota .tc S1x128 32 [1] iota_S1x128_d1_w32) v187).2.2.2.2.1, (classEnd (k0_pay317 v228) (k0_pay318 v230) (k0_pay319 v232) (k0_pay320 v234) (iota .tc S1x128 32 [1] iota_S1x128_d1_w32) v187).2.2.2.2.2, (classEnd (k0_pay317 v228) (k0_pay318 v230) (k0_pay319 v232) (k0_pay320 v234) (iota .tc S1x128 32 [1] iota_S1x128_d1_w32) v191).2.2.1, (classEnd (k0_pay317 v228) (k0_pay318 v230) (k0_pay319 v232) (k0_pay320 v234) (iota .tc S1x128 32 [1] iota_S1x128_d1_w32) v191).2.2.2.1, (classEnd (k0_pay317 v228) (k0_pay318 v230) (k0_pay319 v232) (k0_pay320 v234) (iota .tc S1x128 32 [1] iota_S1x128_d1_w32) v191).2.2.2.2.1, (classEnd (k0_pay317 v228) (k0_pay318 v230) (k0_pay319 v232) (k0_pay320 v234) (iota .tc S1x128 32 [1] iota_S1x128_d1_w32) v191).2.2.2.2.2, (classEnd (k0_pay317 v228) (k0_pay318 v230) (k0_pay319 v232) (k0_pay320 v234) (iota .tc S1x128 32 [1] iota_S1x128_d1_w32) v195).2.2.1, (classEnd (k0_pay317 v228) (k0_pay318 v230) (k0_pay319 v232) (k0_pay320 v234) (iota .tc S1x128 32 [1] iota_S1x128_d1_w32) v195).2.2.2.1, (classEnd (k0_pay317 v228) (k0_pay318 v230) (k0_pay319 v232) (k0_pay320 v234) (iota .tc S1x128 32 [1] iota_S1x128_d1_w32) v195).2.2.2.2.1, (classEnd (k0_pay317 v228) (k0_pay318 v230) (k0_pay319 v232) (k0_pay320 v234) (iota .tc S1x128 32 [1] iota_S1x128_d1_w32) v195).2.2.2.2.2, (classEnd (k0_pay317 v228) (k0_pay318 v230) (k0_pay319 v232) (k0_pay320 v234) (iota .tc S1x128 32 [1] iota_S1x128_d1_w32) v199).2.2.1, (classEnd (k0_pay317 v228) (k0_pay318 v230) (k0_pay319 v232) (k0_pay320 v234) (iota .tc S1x128 32 [1] iota_S1x128_d1_w32) v199).2.2.2.1, (classEnd (k0_pay317 v228) (k0_pay318 v230) (k0_pay319 v232) (k0_pay320 v234) (iota .tc S1x128 32 [1] iota_S1x128_d1_w32) v199).2.2.2.2.1, (classEnd (k0_pay317 v228) (k0_pay318 v230) (k0_pay319 v232) (k0_pay320 v234) (iota .tc S1x128 32 [1] iota_S1x128_d1_w32) v199).2.2.2.2.2, (classEnd (k0_pay317 v228) (k0_pay318 v230) (k0_pay319 v232) (k0_pay320 v234) (iota .tc S1x128 32 [1] iota_S1x128_d1_w32) v203).2.2.1, (classEnd (k0_pay317 v228) (k0_pay318 v230) (k0_pay319 v232) (k0_pay320 v234) (iota .tc S1x128 32 [1] iota_S1x128_d1_w32) v203).2.2.2.1, (classEnd (k0_pay317 v228) (k0_pay318 v230) (k0_pay319 v232) (k0_pay320 v234) (iota .tc S1x128 32 [1] iota_S1x128_d1_w32) v203).2.2.2.2.1, (classEnd (k0_pay317 v228) (k0_pay318 v230) (k0_pay319 v232) (k0_pay320 v234) (iota .tc S1x128 32 [1] iota_S1x128_d1_w32) v203).2.2.2.2.2, (classEnd (k0_pay317 v228) (k0_pay318 v230) (k0_pay319 v232) (k0_pay320 v234) (iota .tc S1x128 32 [1] iota_S1x128_d1_w32) v207).2.2.1, (classEnd (k0_pay317 v228) (k0_pay318 v230) (k0_pay319 v232) (k0_pay320 v234) (iota .tc S1x128 32 [1] iota_S1x128_d1_w32) v207).2.2.2.1, (classEnd (k0_pay317 v228) (k0_pay318 v230) (k0_pay319 v232) (k0_pay320 v234) (iota .tc S1x128 32 [1] iota_S1x128_d1_w32) v207).2.2.2.2.1, (classEnd (k0_pay317 v228) (k0_pay318 v230) (k0_pay319 v232) (k0_pay320 v234) (iota .tc S1x128 32 [1] iota_S1x128_d1_w32) v207).2.2.2.2.2, (classEnd (k0_pay317 v228) (k0_pay318 v230) (k0_pay319 v232) (k0_pay320 v234) (iota .tc S1x128 32 [1] iota_S1x128_d1_w32) (k0_pay312 v121 v208)).2.2.1, (classEnd (k0_pay317 v228) (k0_pay318 v230) (k0_pay319 v232) (k0_pay320 v234) (iota .tc S1x128 32 [1] iota_S1x128_d1_w32) (k0_pay312 v121 v208)).2.2.2.1, (classEnd (k0_pay317 v228) (k0_pay318 v230) (k0_pay319 v232) (k0_pay320 v234) (iota .tc S1x128 32 [1] iota_S1x128_d1_w32) (k0_pay312 v121 v208)).2.2.2.2.1, (classEnd (k0_pay317 v228) (k0_pay318 v230) (k0_pay319 v232) (k0_pay320 v234) (iota .tc S1x128 32 [1] iota_S1x128_d1_w32) (k0_pay312 v121 v208)).2.2.2.2.2, (classEnd (k0_pay317 v228) (k0_pay318 v230) (k0_pay319 v232) (k0_pay320 v234) (iota .tc S1x128 32 [1] iota_S1x128_d1_w32) (k0_pay313 v131 v163_12)).2.2.1, (classEnd (k0_pay317 v228) (k0_pay318 v230) (k0_pay319 v232) (k0_pay320 v234) (iota .tc S1x128 32 [1] iota_S1x128_d1_w32) (k0_pay313 v131 v163_12)).2.2.2.1, (classEnd (k0_pay317 v228) (k0_pay318 v230) (k0_pay319 v232) (k0_pay320 v234) (iota .tc S1x128 32 [1] iota_S1x128_d1_w32) (k0_pay313 v131 v163_12)).2.2.2.2.1, (classEnd (k0_pay317 v228) (k0_pay318 v230) (k0_pay319 v232) (k0_pay320 v234) (iota .tc S1x128 32 [1] iota_S1x128_d1_w32) (k0_pay313 v131 v163_12)).2.2.2.2.2, (classEnd (k0_pay317 v228) (k0_pay318 v230) (k0_pay319 v232) (k0_pay320 v234) (iota .tc S1x128 32 [1] iota_S1x128_d1_w32) (k0_pay314 v141 v163_13)).2.2.1, (classEnd (k0_pay317 v228) (k0_pay318 v230) (k0_pay319 v232) (k0_pay320 v234) (iota .tc S1x128 32 [1] iota_S1x128_d1_w32) (k0_pay314 v141 v163_13)).2.2.2.1, (classEnd (k0_pay317 v228) (k0_pay318 v230) (k0_pay319 v232) (k0_pay320 v234) (iota .tc S1x128 32 [1] iota_S1x128_d1_w32) (k0_pay314 v141 v163_13)).2.2.2.2.1, (classEnd (k0_pay317 v228) (k0_pay318 v230) (k0_pay319 v232) (k0_pay320 v234) (iota .tc S1x128 32 [1] iota_S1x128_d1_w32) (k0_pay314 v141 v163_13)).2.2.2.2.2, (classEnd (k0_pay317 v228) (k0_pay318 v230) (k0_pay319 v232) (k0_pay320 v234) (iota .tc S1x128 32 [1] iota_S1x128_d1_w32) (k0_pay315 v151 v163_14)).2.2.1, (classEnd (k0_pay317 v228) (k0_pay318 v230) (k0_pay319 v232) (k0_pay320 v234) (iota .tc S1x128 32 [1] iota_S1x128_d1_w32) (k0_pay315 v151 v163_14)).2.2.2.1, (classEnd (k0_pay317 v228) (k0_pay318 v230) (k0_pay319 v232) (k0_pay320 v234) (iota .tc S1x128 32 [1] iota_S1x128_d1_w32) (k0_pay315 v151 v163_14)).2.2.2.2.1, (classEnd (k0_pay317 v228) (k0_pay318 v230) (k0_pay319 v232) (k0_pay320 v234) (iota .tc S1x128 32 [1] iota_S1x128_d1_w32) (k0_pay315 v151 v163_14)).2.2.2.2.2, (classEnd (k0_pay317 v228) (k0_pay318 v230) (k0_pay319 v232) (k0_pay320 v234) (iota .tc S1x128 32 [1] iota_S1x128_d1_w32) (k0_pay316 v161 v163_15)).2.2.1, (classEnd (k0_pay317 v228) (k0_pay318 v230) (k0_pay319 v232) (k0_pay320 v234) (iota .tc S1x128 32 [1] iota_S1x128_d1_w32) (k0_pay316 v161 v163_15)).2.2.2.1, (classEnd (k0_pay317 v228) (k0_pay318 v230) (k0_pay319 v232) (k0_pay320 v234) (iota .tc S1x128 32 [1] iota_S1x128_d1_w32) (k0_pay316 v161 v163_15)).2.2.2.2.1, (classEnd (k0_pay317 v228) (k0_pay318 v230) (k0_pay319 v232) (k0_pay320 v234) (iota .tc S1x128 32 [1] iota_S1x128_d1_w32) (k0_pay316 v161 v163_15)).2.2.2.2.2, k0_pay327 (classEnd (k0_pay317 v228) (k0_pay318 v230) (k0_pay319 v232) (k0_pay320 v234) (iota .tc S1x128 32 [1] iota_S1x128_d1_w32) v167).2.1 (classEnd (k0_pay317 v228) (k0_pay318 v230) (k0_pay319 v232) (k0_pay320 v234) (iota .tc S1x128 32 [1] iota_S1x128_d1_w32) v171).2.1 (classEnd (k0_pay317 v228) (k0_pay318 v230) (k0_pay319 v232) (k0_pay320 v234) (iota .tc S1x128 32 [1] iota_S1x128_d1_w32) v175).2.1 (classEnd (k0_pay317 v228) (k0_pay318 v230) (k0_pay319 v232) (k0_pay320 v234) (iota .tc S1x128 32 [1] iota_S1x128_d1_w32) v179).2.1 (classEnd (k0_pay317 v228) (k0_pay318 v230) (k0_pay319 v232) (k0_pay320 v234) (iota .tc S1x128 32 [1] iota_S1x128_d1_w32) v183).2.1 (classEnd (k0_pay317 v228) (k0_pay318 v230) (k0_pay319 v232) (k0_pay320 v234) (iota .tc S1x128 32 [1] iota_S1x128_d1_w32) v187).2.1 (classEnd (k0_pay317 v228) (k0_pay318 v230) (k0_pay319 v232) (k0_pay320 v234) (iota .tc S1x128 32 [1] iota_S1x128_d1_w32) v191).2.1 (classEnd (k0_pay317 v228) (k0_pay318 v230) (k0_pay319 v232) (k0_pay320 v234) (iota .tc S1x128 32 [1] iota_S1x128_d1_w32) v195).2.1 (classEnd (k0_pay317 v228) (k0_pay318 v230) (k0_pay319 v232) (k0_pay320 v234) (iota .tc S1x128 32 [1] iota_S1x128_d1_w32) v199).2.1 (classEnd (k0_pay317 v228) (k0_pay318 v230) (k0_pay319 v232) (k0_pay320 v234) (iota .tc S1x128 32 [1] iota_S1x128_d1_w32) v203).2.1 (classEnd (k0_pay317 v228) (k0_pay318 v230) (k0_pay319 v232) (k0_pay320 v234) (iota .tc S1x128 32 [1] iota_S1x128_d1_w32) v207).2.1 (classEnd (k0_pay317 v228) (k0_pay318 v230) (k0_pay319 v232) (k0_pay320 v234) (iota .tc S1x128 32 [1] iota_S1x128_d1_w32) (k0_pay312 v121 v208)).2.1 (classEnd (k0_pay317 v228) (k0_pay318 v230) (k0_pay319 v232) (k0_pay320 v234) (iota .tc S1x128 32 [1] iota_S1x128_d1_w32) (k0_pay313 v131 v163_12)).2.1 (classEnd (k0_pay317 v228) (k0_pay318 v230) (k0_pay319 v232) (k0_pay320 v234) (iota .tc S1x128 32 [1] iota_S1x128_d1_w32) (k0_pay314 v141 v163_13)).2.1 (classEnd (k0_pay317 v228) (k0_pay318 v230) (k0_pay319 v232) (k0_pay320 v234) (iota .tc S1x128 32 [1] iota_S1x128_d1_w32) (k0_pay315 v151 v163_14)).2.1 (classEnd (k0_pay317 v228) (k0_pay318 v230) (k0_pay319 v232) (k0_pay320 v234) (iota .tc S1x128 32 [1] iota_S1x128_d1_w32) (k0_pay316 v161 v163_15)).2.1⟩) := by
  rw [k0_part41_eq_skeleton]
  unfold k0_part41_skel
  refine congrArg (Prog.lift _ >>= ·) (funext fun v228 => ?_)
  refine congrArg (Prog.lift _ >>= ·) (funext fun v230 => ?_)
  refine congrArg (Prog.lift _ >>= ·) (funext fun v232 => ?_)
  refine congrArg (Prog.lift _ >>= ·) (funext fun v234 => ?_)
  refine (Scf.for_pure_bind (lb := k0_t2_loop.lb) (ub := k0_t2_loop.ub) (st := k0_t2_loop.st) (hok := k0_t2_ok)
    (init := pack96 fun j => (![v167, v171, v175, v179, v183, v187, v191, v195, v199, v203, v207, k0_pay312 v121 v208, k0_pay313 v131 v163_12, k0_pay314 v141 v163_13, k0_pay315 v151 v163_14, k0_pay316 v161 v163_15] j, k0_pay321 (F := F), k0_pay321 (F := F), k0_pay321 (F := F), k0_pay321 (F := F), k0_pay321 (F := F)))
    (g := fun k a => pack96 fun j => nmsStep (k0_pay317 v228) (k0_pay318 v230) (k0_pay319 v232) (k0_pay320 v234) (iota .tc S1x128 32 [1] iota_S1x128_d1_w32) k (unpack96 a j)) (hg := fun k a => ?_) (k := _)).trans ?_
  · have e := t2_body_eq i arg2 harg2 arg3 harg3 arg4 harg4 arg5 harg5 arg6 harg6 v121 v131 v141 v151 v161 v163_12 v163_13 v163_14 v163_15 v167 v171 v175 v179 v183 v187 v191 v195 v199 v203 v207 v208 v228 v230 v232 v234 (iota .tc S1x128 32 [1] iota_S1x128_d1_w32) k (unpack96 a)
    rw [pack96_unpack96] at e
    exact e
  · rw [fold_encode pack96 _ (fun _ k => nmsStep (k0_pay317 v228) (k0_pay318 v230) (k0_pay319 v232) (k0_pay320 v234) (iota .tc S1x128 32 [1] iota_S1x128_d1_w32) k) (fun _ x => by rw [unpack96_pack96 x])]
    sl_kernel_rfl

end Cert.KernelIdeal.Nms

end
-- ==== Proof.Nms.KernelIdeal.Frame.lean ====
/- The frame certificate of the program: the launch of its two calls among the stretches of host operations. The
   first call's body is read through the closed forms of Parts.lean, so that its two loops need no invariants. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import proofs.«01_k».proof.Proof.Nms.KernelIdeal.Parts
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Nms

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__nms_stage1_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 3, through which its contents are stated (`View.read_writes_of_cover`: the
    choice does not matter). -/
abbrev VO0_3 : View sig .tc .vmem S1x1x16x128 .f32 := (Memref.whole cc0_stg3_0 : Memref sig .tc .vmem S1x1x16x128 .f32).view
/-- One staging buffer of output window 4, through which its contents are stated (`View.read_writes_of_cover`: the
    choice does not matter). -/
abbrev VO0_4 : View sig .tc .vmem S1x1x64x128 .f32 := (Memref.whole cc0_stg4_0 : Memref sig .tc .vmem S1x1x64x128 .f32).view
/-- Each window's current staging memref at point `t`, spelled as the pipeline passes it (`bodyAt0`), and its wholeness. -/
abbrev ms0_0 (t : Fin cfg0.N) : Memref sig .tc .vmem S1x16x126x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x126x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x126x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x16x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x128 .f32 := win0_4.stage (cfg0.slots t 4)
abbrev hs0_4 (t : Fin cfg0.N) : (ms0_4 t).IsWhole := hstage0_4 ((cfg0.slots t 4).cast nbuf0_4)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun0_A (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec F S1x16x126x128 .f32) (x1 : Vec F S1x126x128 .f32) (x2 : Vec F S1x4x126x128 .f32) :
    Σ' (L3 : List (View.Piece (Elt F) S1x1x16x128 .f32)), { L4 : List (View.Piece (Elt F) S1x1x64x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__nms_stage1_kernel i arg2 harg2 arg3 harg3 arg4 harg4 arg5 harg5 arg6 harg6) K } := by
  refine ⟨?_, ?_, fun E K => ?run⟩
  case run =>
    simp only [cc0__nms_stage1_kernel_eq_skeleton]; unfold cc0__nms_stage1_kernel_skel
    simp only [k0_part34_eq_skeleton, k0_part35_eq_skeleton, k0_part36_eq_skeleton, k0_part37_eq_skeleton,
      k0_part38_eq_skeleton, k0_part39_eq_skeleton, part40_eq, part41_eq]
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

/-- The run's pieces for output 3 tile its block , so they cover it. -/
theorem cover0_A_3 (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec F S1x16x126x128 .f32) (x1 : Vec F S1x126x128 .f32) (x2 : Vec F S1x4x126x128 .f32) (y : S1x1x16x128.Idx) :
    ∃ pc ∈ (kernelRun0_A c i arg2 harg2 arg3 harg3 arg4 harg4 arg5 harg5 arg6 harg6 x0 x1 x2).1, y ∈ pc.1.set :=
  View.cover_of_tiledL (kernelRun0_A c i arg2 harg2 arg3 harg3 arg4 harg4 arg5 harg5 arg6 harg6 x0 x1 x2).1 S1x1x16x128.size (by sl_kernel_rfl) y

/-- What the run leaves in output 3's staging buffer: its pieces read back over junk. -/
def out0_A_3 (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec F S1x16x126x128 .f32) (x1 : Vec F S1x126x128 .f32) (x2 : Vec F S1x4x126x128 .f32) : Vec F S1x1x16x128 .f32 :=
  VO0_3.read (Elt F) (VO0_3.writes (Elt F) VO0_3.junk (kernelRun0_A c i arg2 harg2 arg3 harg3 arg4 harg4 arg5 harg5 arg6 harg6 x0 x1 x2).1)

/-- The run's pieces for output 4 tile its block , so they cover it. -/
theorem cover0_A_4 (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec F S1x16x126x128 .f32) (x1 : Vec F S1x126x128 .f32) (x2 : Vec F S1x4x126x128 .f32) (y : S1x1x64x128.Idx) :
    ∃ pc ∈ (kernelRun0_A c i arg2 harg2 arg3 harg3 arg4 harg4 arg5 harg5 arg6 harg6 x0 x1 x2).2.1, y ∈ pc.1.set :=
  View.cover_of_tiledL (kernelRun0_A c i arg2 harg2 arg3 harg3 arg4 harg4 arg5 harg5 arg6 harg6 x0 x1 x2).2.1 S1x1x64x128.size (by sl_kernel_rfl) y

/-- What the run leaves in output 4's staging buffer: its pieces read back over junk. -/
def out0_A_4 (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec F S1x16x126x128 .f32) (x1 : Vec F S1x126x128 .f32) (x2 : Vec F S1x4x126x128 .f32) : Vec F S1x1x64x128 .f32 :=
  VO0_4.read (Elt F) (VO0_4.writes (Elt F) VO0_4.junk (kernelRun0_A c i arg2 harg2 arg3 harg3 arg4 harg4 arg5 harg5 arg6 harg6 x0 x1 x2).2.1)

/-! ## What the outputs hold after each point -/

/-- What the outputs' staging buffers hold after the body at point `t` (as a tuple, in window order): the run's contents at
    the point's memrefs and input blocks. -/
def outsAt0 (c : Dev nD) (t : Fin cfg0.N) : Vec F S1x1x16x128 .f32 × Vec F S1x1x64x128 .f32 :=
  (out0_A_3 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t), out0_A_4 c (grid0.coords t) (ms0_0 t) (hs0_0 t) (ms0_1 t) (hs0_1 t) (ms0_2 t) (hs0_2 t) (ms0_3 t) (hs0_3 t) (ms0_4 t) (hs0_4 t) (iblk0 V c 0 t) (iblk0 V c 1 t) (iblk0 V c 2 t))

/-! ## The pipeline's proof data -/

/-- The proof data of pipeline 0 on core `c`: the arrays as the region finds them (`V`); after the body at
    point `t` each input's buffer at its block and the outputs' at `outsAt0`; the invariant the class's
    ; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t).1
    | ⟨4, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t).1 := by dsimp only [dat0]
theorem after0_4 (c : Dev nD) (t : Fin cfg0.N) : (dat0 V c).after 4 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` , -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

/-- The body at any point: the inputs' memrefs hold their blocks (`before0_W`); so the
    run applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0
  unfold out0_A_3 out0_A_4; (try dsimp only)
  iintro ⟨HΦ, Ho, ⟨%d0, H0⟩, ⟨%d1, H1⟩, ⟨%d2, H2⟩, ⟨%d3, H3⟩, ⟨%d4, H4⟩⟩
  iapply ((kernelRun0_A c (grid0.coords t) _ _ _ _ _ _ _ _ _ _ (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [H4]; · iexists _; iexact H4
  iintro ⟨H0, H1, H2, ⟨%e3, H3⟩, ⟨%e4, H4⟩⟩
  isplitl [HΦ]; · iexact HΦ
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _)
  unfold owns; iexists _; isplitr
  swap; · iexact H4
  ipureintro; exact View.read_writes_of_cover _ _ _ _ _ (cover0_A_4 c _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__merge_stage2_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 2, through which its contents are stated (`View.read_writes_of_cover`: the
    choice does not matter). -/
abbrev VO1_2 : View sig .tc .vmem S1x1x128 .f32 := (Memref.whole cc1_stg2_0 : Memref sig .tc .vmem S1x1x128 .f32).view
/-- One staging buffer of output window 3, through which its contents are stated (`View.read_writes_of_cover`: the
    choice does not matter). -/
abbrev VO1_3 : View sig .tc .vmem S1x1x128 .f32 := (Memref.whole cc1_stg3_0 : Memref sig .tc .vmem S1x1x128 .f32).view
/-- One staging buffer of output window 4, through which its contents are stated (`View.read_writes_of_cover`: the
    choice does not matter). -/
abbrev VO1_4 : View sig .tc .vmem S1x4x128 .f32 := (Memref.whole cc1_stg4_0 : Memref sig .tc .vmem S1x4x128 .f32).view
/-- One staging buffer of output window 5, through which its contents are stated (`View.read_writes_of_cover`: the
    choice does not matter). -/
abbrev VO1_5 : View sig .tc .vmem S1x1x1 .i32 := (Memref.whole cc1_stg5_0 : Memref sig .tc .vmem S1x1x1 .i32).view
/-- Each window's current staging memref at point `t`, spelled as the pipeline passes it (`bodyAt1`), and its wholeness. -/
abbrev ms1_0 (t : Fin cfg1.N) : Memref sig .tc .vmem S1x80x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x80x4x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x4x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x1 .i32 := win1_5.stage (cfg1.slots t 5)
abbrev hs1_5 (t : Fin cfg1.N) : (ms1_5 t).IsWhole := hstage1_5 ((cfg1.slots t 5).cast nbuf1_5)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs ; the pieces are
    the witness that run finds (assigned when `iexact` hands the buffer to the continuation). -/
noncomputable def kernelRun1_A (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) :
    Σ' (L2 : List (View.Piece (Elt F) S1x1x128 .f32)), Σ' (L3 : List (View.Piece (Elt F) S1x1x128 .f32)), Σ' (L4 : List (View.Piece (Elt F) S1x4x128 .f32)), { L5 : List (View.Piece (Elt F) S1x1x1 .i32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc1__merge_stage2_kernel i arg1 harg1 arg2 harg2 arg3 harg3 arg4 harg4 arg5 harg5 arg6 harg6) K } := by
  refine ⟨?_, ?_, ?_, ?_, fun E K => ?run⟩
  case run =>
    simp only [cc1__merge_stage2_kernel_eq_skeleton]; unfold cc1__merge_stage2_kernel_skel
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [H4]; · iexists _; iexact H4
    iexists _; iexact H5

/-- The run's pieces for output 2 tile its block , so they cover it. -/
theorem cover1_A_2 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) (y : S1x1x128.Idx) :
    ∃ pc ∈ (kernelRun1_A c i arg1 harg1 arg2 harg2 arg3 harg3 arg4 harg4 arg5 harg5 arg6 harg6 x0 x1).1, y ∈ pc.1.set :=
  View.cover_of_tiledL (kernelRun1_A c i arg1 harg1 arg2 harg2 arg3 harg3 arg4 harg4 arg5 harg5 arg6 harg6 x0 x1).1 S1x1x128.size (by sl_kernel_rfl) y

/-- What the run leaves in output 2's staging buffer: its pieces read back over junk. -/
def out1_A_2 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) : Vec F S1x1x128 .f32 :=
  VO1_2.read (Elt F) (VO1_2.writes (Elt F) VO1_2.junk (kernelRun1_A c i arg1 harg1 arg2 harg2 arg3 harg3 arg4 harg4 arg5 harg5 arg6 harg6 x0 x1).1)

/-- The run's pieces for output 3 tile its block , so they cover it. -/
theorem cover1_A_3 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) (y : S1x1x128.Idx) :
    ∃ pc ∈ (kernelRun1_A c i arg1 harg1 arg2 harg2 arg3 harg3 arg4 harg4 arg5 harg5 arg6 harg6 x0 x1).2.1, y ∈ pc.1.set :=
  View.cover_of_tiledL (kernelRun1_A c i arg1 harg1 arg2 harg2 arg3 harg3 arg4 harg4 arg5 harg5 arg6 harg6 x0 x1).2.1 S1x1x128.size (by sl_kernel_rfl) y

/-- What the run leaves in output 3's staging buffer: its pieces read back over junk. -/
def out1_A_3 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) : Vec F S1x1x128 .f32 :=
  VO1_3.read (Elt F) (VO1_3.writes (Elt F) VO1_3.junk (kernelRun1_A c i arg1 harg1 arg2 harg2 arg3 harg3 arg4 harg4 arg5 harg5 arg6 harg6 x0 x1).2.1)

/-- The run's pieces for output 4 tile its block , so they cover it. -/
theorem cover1_A_4 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) (y : S1x4x128.Idx) :
    ∃ pc ∈ (kernelRun1_A c i arg1 harg1 arg2 harg2 arg3 harg3 arg4 harg4 arg5 harg5 arg6 harg6 x0 x1).2.2.1, y ∈ pc.1.set :=
  View.cover_of_tiledL (kernelRun1_A c i arg1 harg1 arg2 harg2 arg3 harg3 arg4 harg4 arg5 harg5 arg6 harg6 x0 x1).2.2.1 S1x4x128.size (by sl_kernel_rfl) y

/-- What the run leaves in output 4's staging buffer: its pieces read back over junk. -/
def out1_A_4 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) : Vec F S1x4x128 .f32 :=
  VO1_4.read (Elt F) (VO1_4.writes (Elt F) VO1_4.junk (kernelRun1_A c i arg1 harg1 arg2 harg2 arg3 harg3 arg4 harg4 arg5 harg5 arg6 harg6 x0 x1).2.2.1)

/-- The run's pieces for output 5 tile its block , so they cover it. -/
theorem cover1_A_5 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) (y : S1x1x1.Idx) :
    ∃ pc ∈ (kernelRun1_A c i arg1 harg1 arg2 harg2 arg3 harg3 arg4 harg4 arg5 harg5 arg6 harg6 x0 x1).2.2.2.1, y ∈ pc.1.set :=
  View.cover_of_tiledL (kernelRun1_A c i arg1 harg1 arg2 harg2 arg3 harg3 arg4 harg4 arg5 harg5 arg6 harg6 x0 x1).2.2.2.1 S1x1x1.size (by sl_kernel_rfl) y

/-- What the run leaves in output 5's staging buffer: its pieces read back over junk. -/
def out1_A_5 (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
    (x0 : Vec F S1x80x128 .f32) (x1 : Vec F S1x80x4x128 .f32) : Vec F S1x1x1 .i32 :=
  VO1_5.read (Elt F) (VO1_5.writes (Elt F) VO1_5.junk (kernelRun1_A c i arg1 harg1 arg2 harg2 arg3 harg3 arg4 harg4 arg5 harg5 arg6 harg6 x0 x1).2.2.2.1)

/-! ## What the outputs hold after each point -/

/-- What the outputs' staging buffers hold after the body at point `t` (as a tuple, in window order): the run's contents at
    the point's memrefs and input blocks. -/
def outsAt1 (c : Dev nD) (t : Fin cfg1.N) : Vec F S1x1x128 .f32 × Vec F S1x1x128 .f32 × Vec F S1x4x128 .f32 × Vec F S1x1x1 .i32 :=
  (out1_A_2 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (iblk1 V c 0 t) (iblk1 V c 1 t))

/-! ## The pipeline's proof data -/

/-- The proof data of pipeline 1 on core `c`: the arrays as the region finds them (`V`); after the body at
    point `t` each input's buffer at its block and the outputs' at `outsAt1`; the invariant the class's
    ; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2.1
    | ⟨4, _⟩ => (outsAt1 V c t).2.2.1
    | ⟨5, _⟩ => (outsAt1 V c t).2.2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2.1 := by dsimp only [dat1]
theorem after1_4 (c : Dev nD) (t : Fin cfg1.N) : (dat1 V c).after 4 t = (outsAt1 V c t).2.2.1 := by dsimp only [dat1]
theorem after1_5 (c : Dev nD) (t : Fin cfg1.N) : (dat1 V c).after 5 t = (outsAt1 V c t).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` , -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

/-- The body at any point: the inputs' memrefs hold their blocks (`before1_W`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold outsAt1
  unfold out1_A_2 out1_A_3 out1_A_4 out1_A_5; (try dsimp only)
  iintro ⟨HΦ, Ho, ⟨%d0, H0⟩, ⟨%d1, H1⟩, ⟨%d2, H2⟩, ⟨%d3, H3⟩, ⟨%d4, H4⟩, ⟨%d5, H5⟩⟩
  iapply ((kernelRun1_A c (grid1.coords t) _ _ _ _ _ _ _ _ _ _ _ _ (iblk1 V c 0 t) (iblk1 V c 1 t)).2.2.2.2 Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  iintro ⟨H0, H1, ⟨%e2, H2⟩, ⟨%e3, H3⟩, ⟨%e4, H4⟩, ⟨%e5, H5⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _ _ _ _ _)
  isplitl [H3]
  · unfold owns; iexists _; isplitr
    swap; · iexact H3
    ipureintro; exact View.read_writes_of_cover _ _ _ _ _ (cover1_A_3 c _ _ _ _ _ _ _ _ _ _ _ _ _ _ _)
  isplitl [H4]
  · unfold owns; iexists _; isplitr
    swap; · iexact H4
    ipureintro; exact View.read_writes_of_cover _ _ _ _ _ (cover1_A_4 c _ _ _ _ _ _ _ _ _ _ _ _ _ _ _)
  unfold owns; iexists _; isplitr
  swap; · iexact H5
  ipureintro; exact View.read_writes_of_cover _ _ _ _ _ (cover1_A_5 c _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated . -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return  -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch  -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4, main_v5, main_v6, main_v7, main_v8, main_v9, main_v10, main_v11, main_v12, main_v13, main_v14, main_v15, main_v16]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v18, main_v19]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v21, main_v22, main_v23, main_v24, main_v25, main_v26, main_v27]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered . -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered . -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)
theorem W5_main_arg5 (c : Dev nD) : W5 m ρ c (Proc.devRef .tc main_arg5) = m ((c : Thread nD τ).loc main_arg5) :=
  W5_args m ρ c main_arg5 (by decide)
theorem W5_main_arg6 (c : Dev nD) : W5 m ρ c (Proc.devRef .tc main_arg6) = m ((c : Thread nD τ).loc main_arg6) :=
  W5_args m ρ c main_arg6 (by decide)
theorem W5_main_arg7 (c : Dev nD) : W5 m ρ c (Proc.devRef .tc main_arg7) = m ((c : Thread nD τ).loc main_arg7) :=
  W5_args m ρ c main_arg7 (by decide)
theorem W5_main_arg8 (c : Dev nD) : W5 m ρ c (Proc.devRef .tc main_arg8) = m ((c : Thread nD τ).loc main_arg8) :=
  W5_args m ρ c main_arg8 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h => h.1) (frame m ρ)

end Cert.KernelIdeal.Nms

end
-- ==== Proof.Nms.RefFrame.lean ====
/- The reference ends with its argument arrays as launched and its counters at zero: it has no counters. -/
module

public import proofs.«01_k».proof.Proof.Gen.ReferenceIdeal.Run
public import proofs.«01_k».proof.Defs

@[expose] public section

noncomputable section

namespace Cert.ReferenceIdeal.Nms

open Cert.ReferenceIdeal Idealize.ShloMosaic Idealize.ShloMosaic.TcCoe Idealize.SL.Sem

/-- The reference has no semaphore, of either kind. -/
theorem no_sem (g : GSem nD τ sig) : False := by
  obtain ⟨_, s⟩ := g
  cases s with
  | reg i => exact i.elim0
  | dma i => exact i.elim0

theorem frame : Cert.quiescent_ReferenceIdeal := fun m ρ _ =>
  (θ_run defs _ _).mono (fun r h => ⟨fun c => (h c).2.2.2.2, funext fun g => (no_sem g).elim⟩) (Value.run m ρ)

end Cert.ReferenceIdeal.Nms

end
-- ==== Proof.Nms.Value.Math.lean ====
/- Greedy selection over a sparse array of scores, over the list of its greatest scores, and over the merged scores:
   the three runs select the same entries. -/
module

public import Idealize.ShloMosaic.Lib.Pointwise
public import Mathlib.Data.EReal.Operations

@[expose] public section

noncomputable section

namespace Nms

/-- `m` is the greatest value of `s`. -/
def IsMax {P : Type} (s : P → EReal) (m : EReal) : Prop := (∀ p, s p ≤ m) ∧ ∃ p, s p = m

theorem IsMax.unique {P : Type} {s : P → EReal} {m m' : EReal} (h : IsMax s m) (h' : IsMax s m') : m = m' := by
  obtain ⟨h1, p, rfl⟩ := h
  obtain ⟨h2, q, rfl⟩ := h'
  exact le_antisymm (h2 _) (h1 _)

/-- `a` is `n` where `c` holds and `o` elsewhere. -/
def Upd (c : Prop) (a n o : EReal) : Prop := (c → a = n) ∧ (¬c → a = o)

/-! ## One class -/

section cls
variable {P K B : Type} (e : K → P) (y : P → B) (sup : B → B → Prop) (n : EReal) (top : K → EReal)

/-- The sparse scores `s` hold the candidates' scores `r` at the candidates' places and `n` elsewhere; a candidate's
    score is its first one or `n`. -/
structure Rel (s : P → EReal) (r : K → EReal) : Prop where
  at_e : ∀ k, s (e k) = r k
  off : ∀ p, (∀ k, e k ≠ p) → s p = n
  or : ∀ k, r k = n ∨ r k = top k

/-- The candidates' first scores: positive or `n`, and no positive one twice. -/
structure Tops : Prop where
  neg : n < 0
  pos : ∀ k, top k = n ∨ 0 < top k
  inj : ∀ k k', 0 < top k → top k = top k' → k = k'

variable {e y sup n top} {s : P → EReal} {r : K → EReal} {m m' : EReal}

theorem Rel.ge (h : Rel e n top s r) (ht : Tops n top) (k : K) : n ≤ r k := by
  rcases h.or k with h1 | h1
  · exact h1.ge
  · rcases ht.pos k with h2 | h2
    · rw [h1, h2]
    · rw [h1]; exact (ht.neg.trans h2).le

theorem Rel.max (h : Rel e n top s r) (ht : Tops n top) (hm : IsMax s m) (hr : IsMax r m') : m = m' := by
  obtain ⟨h1, p, hp⟩ := hm
  obtain ⟨h2, k, hk⟩ := hr
  apply le_antisymm
  · by_cases hq : ∃ j, e j = p
    · obtain ⟨j, rfl⟩ := hq
      rw [← hp, h.at_e]; exact h2 j
    · rw [← hp, h.off p (fun j hj => hq ⟨j, hj⟩)]
      exact (h.ge ht k).trans (h2 k)
  · rw [← hk, ← h.at_e]; exact h1 _

theorem Rel.pos_top (h : Rel e n top s r) (ht : Tops n top) {k : K} (hk : 0 < r k) : r k = top k := by
  rcases h.or k with h1 | h1
  · rw [h1] at hk; exact absurd (hk.trans ht.neg) (lt_irrefl _)
  · exact h1

theorem Rel.sel (h : Rel e n top s r) (ht : Tops n top) (hm : 0 < m) {k : K} (hk : r k = m) (p : P) :
    s p = m ↔ p = e k := by
  constructor
  · intro hp
    by_cases hq : ∃ j, e j = p
    · obtain ⟨j, rfl⟩ := hq
      rw [h.at_e] at hp
      have h1 := h.pos_top ht (k := j) (hp ▸ hm)
      have h2 := h.pos_top ht (k := k) (hk ▸ hm)
      rw [ht.inj j k (h1 ▸ hp ▸ hm) (by rw [← h1, ← h2, hp, hk])]
    · rw [h.off p (fun j hj => hq ⟨j, hj⟩)] at hp
      rw [← hp] at hm
      exact absurd (hm.trans ht.neg) (lt_irrefl _)
  · rintro rfl
    rw [h.at_e, hk]

theorem Rel.step (he : Function.Injective e) (h : Rel e n top s r) (ht : Tops n top) (hm : IsMax s m) {k : K}
    (hk : r k = m) {b : B} (hb : 0 < m → b = y (e k)) {s' : P → EReal} {r' : K → EReal}
    (hs : ∀ p, Upd (sup b (y p) ∨ s p = m) (s' p) n (s p))
    (hr : ∀ j, Upd (sup (y (e k)) (y (e j)) ∨ j = k) (r' j) n (r j)) : Rel e n top s' r' := by
  have hor : ∀ j, r' j = n ∨ r' j = top j := fun j => by
    by_cases hc : sup (y (e k)) (y (e j)) ∨ j = k
    · exact .inl ((hr j).1 hc)
    · rw [(hr j).2 hc]; exact h.or j
  have hoff : ∀ p, (∀ j, e j ≠ p) → s' p = n := fun p hp => by
    by_cases hc : sup b (y p) ∨ s p = m
    · exact (hs p).1 hc
    · rw [(hs p).2 hc]; exact h.off p hp
  refine ⟨fun j => ?_, hoff, hor⟩
  by_cases hpos : 0 < m
  · have hsel := h.sel ht hpos hk
    have hcc : (sup b (y (e j)) ∨ s (e j) = m) ↔ (sup (y (e k)) (y (e j)) ∨ j = k) := by
      rw [hb hpos, hsel, he.eq_iff]
    by_cases hc : sup (y (e k)) (y (e j)) ∨ j = k
    · rw [(hr j).1 hc, (hs _).1 (hcc.mpr hc)]
    · rw [(hr j).2 hc, (hs _).2 (fun h' => hc (hcc.mp h')), h.at_e]
  · have hall : ∀ j, r j = n := fun j => by
      rcases h.or j with h1 | h1
      · exact h1
      · rcases ht.pos j with h2 | h2
        · rw [h1, h2]
        · rw [← h1, ← h.at_e] at h2
          exact absurd (h2.trans_le (hm.1 _)) hpos
    have e1 : r' j = n := by
      by_cases hc : sup (y (e k)) (y (e j)) ∨ j = k
      · exact (hr j).1 hc
      · rw [(hr j).2 hc, hall]
    have e2 : s' (e j) = n := by
      by_cases hc : sup b (y (e j)) ∨ s (e j) = m
      · exact (hs _).1 hc
      · rw [(hs _).2 hc, h.at_e, hall]
    rw [e1, e2]

/-- A run over the sparse scores: `m t` the greatest at step `t`, `b t` the box where it lies (if at one place), the
    scores that overlap it or reach it replaced by `n`. -/
structure PRun (y : P → B) (sup : B → B → Prop) (n : EReal) (s : ℕ → P → EReal) (m : ℕ → EReal) (b : ℕ → B) :
    Prop where
  max : ∀ t, IsMax (s t) (m t)
  box : ∀ t p, (∀ q, s t q = m t ↔ q = p) → b t = y p
  upd : ∀ t p, Upd (sup (b t) (y p) ∨ s t p = m t) (s (t + 1) p) n (s t p)

/-- A run over the candidates: `sel t` the one selected at step `t`. -/
structure KRun (z : K → B) (sup : B → B → Prop) (n : EReal) (r : ℕ → K → EReal) (m : ℕ → EReal) (c : ℕ → K) :
    Prop where
  max : ∀ t, IsMax (r t) (m t)
  sel : ∀ t, r t (c t) = m t
  upd : ∀ t j, Upd (sup (z (c t)) (z j) ∨ j = c t) (r (t + 1) j) n (r t j)

variable {S : ℕ → P → EReal} {M M' : ℕ → EReal} {b : ℕ → B} {R : ℕ → K → EReal} {sel : ℕ → K}

theorem run_rel (he : Function.Injective e) (ht : Tops n top) (hp : PRun y sup n S M b)
    (hk : KRun (fun k => y (e k)) sup n R M' sel) (h0 : Rel e n top (S 0) (R 0)) (t : ℕ) :
    Rel e n top (S t) (R t) := by
  induction t with
  | zero => exact h0
  | succ t ih =>
    have hm := ih.max ht (hp.max t) (hk.max t)
    refine ih.step he ht (hp.max t) (k := sel t) (by rw [hk.sel, hm]) (fun hpos => ?_) (hp.upd t) (hk.upd t)
    exact hp.box t _ (ih.sel ht hpos (by rw [hk.sel, hm]))

/-- The two runs select the same scores and, of a positive score, the same box. -/
theorem run_max (he : Function.Injective e) (ht : Tops n top) (hp : PRun y sup n S M b)
    (hk : KRun (fun k => y (e k)) sup n R M' sel) (h0 : Rel e n top (S 0) (R 0)) (t : ℕ) : M t = M' t :=
  (run_rel he ht hp hk h0 t).max ht (hp.max t) (hk.max t)

theorem run_box (he : Function.Injective e) (ht : Tops n top) (hp : PRun y sup n S M b)
    (hk : KRun (fun k => y (e k)) sup n R M' sel) (h0 : Rel e n top (S 0) (R 0)) (t : ℕ) (hpos : 0 < M' t) :
    b t = y (e (sel t)) := by
  have hm := run_max he ht hp hk h0 t
  exact hp.box t _ ((run_rel he ht hp hk h0 t).sel ht (hm ▸ hpos) (by rw [hk.sel, hm]))

/-- A candidate's score in a run is its first one or `n`. -/
theorem KRun.or {z : K → B} (hk : KRun z sup n R M sel) (h0 : R 0 = top) (t : ℕ) (j : K) :
    R t j = n ∨ R t j = top j := by
  induction t with
  | zero => rw [h0]; exact .inr rfl
  | succ t ih =>
    by_cases hc : sup (z (sel t)) (z j) ∨ j = sel t
    · exact .inl ((hk.upd t j).1 hc)
    · rw [(hk.upd t j).2 hc]; exact ih

theorem KRun.gone {z : K → B} (hk : KRun z sup n R M sel) (t d : ℕ) : R (t + 1 + d) (sel t) = n := by
  induction d with
  | zero => exact (hk.upd t _).1 (.inr rfl)
  | succ d ih =>
    by_cases hc : sup (z (sel (t + 1 + d))) (z (sel t)) ∨ sel t = sel (t + 1 + d)
    · exact (hk.upd (t + 1 + d) _).1 hc
    · exact ((hk.upd (t + 1 + d) _).2 hc).trans ih

theorem KRun.m_top {z : K → B} (hk : KRun z sup n R M sel) (hn : n < 0) (h0 : R 0 = top) (t : ℕ) (hpos : 0 < M t) :
    M t = top (sel t) := by
  rw [← hk.sel] at hpos ⊢
  rcases hk.or h0 t (sel t) with h | h
  · rw [h] at hpos; exact absurd (hpos.trans hn) (lt_irrefl _)
  · exact h

/-- No candidate of a positive score is selected twice. -/
theorem KRun.sel_inj {z : K → B} (hk : KRun z sup n R M sel) (hn : n < 0) {t t' : ℕ} (hpos : 0 < M t) (hpos' : 0 < M t')
    (h : sel t = sel t') : t = t' := by
  have key : ∀ a c : ℕ, 0 < M c → sel a = sel c → ¬a < c := fun a c hc hs hlt => by
    obtain ⟨d, rfl⟩ := Nat.exists_eq_add_of_lt hlt
    have h1 := hk.gone a d
    rw [show a + 1 + d = a + d + 1 by omega, hs, hk.sel] at h1
    rw [h1] at hc
    exact lt_asymm hc hn
  exact le_antisymm (not_lt.mp (key t' t hpos h.symm)) (not_lt.mp (key t t' hpos' h))

end cls

/-! ## The bisection's threshold -/

section bis
variable {P : Type} [Fintype P] {N : ℕ} {e : Fin (N + 1) → P} {s0 : P → EReal} {v : EReal}

open Classical in
/-- At least `N + 1` scores reach `x` exactly when the last candidate does. -/
theorem count_iff (he : Function.Injective e) (hlast : s0 (e (Fin.last N)) = v) (hge : ∀ k, v ≤ s0 (e k))
    (hoff : ∀ p, (∀ k, e k ≠ p) → s0 p ≤ v) (x : EReal) :
    N + 1 ≤ (Finset.univ.filter fun p => x ≤ s0 p).card ↔ x ≤ v := by
  constructor
  · intro h
    by_contra hx
    have hsub : (Finset.univ.filter fun p => x ≤ s0 p) ⊆ ((Finset.univ : Finset (Fin (N + 1))).erase (Fin.last N)).image e := by
      intro p hp
      have hp' : x ≤ s0 p := by simpa using hp
      by_cases hq : ∃ k, e k = p
      · obtain ⟨k, rfl⟩ := hq
        refine Finset.mem_image.mpr ⟨k, Finset.mem_erase.mpr ⟨?_, Finset.mem_univ _⟩, rfl⟩
        rintro rfl
        exact hx (hp'.trans hlast.le)
      · exact absurd (hp'.trans (hoff p (fun k hk => hq ⟨k, hk⟩))) hx
    have h1 := Finset.card_le_card hsub
    have h2 := Finset.card_image_le (s := (Finset.univ : Finset (Fin (N + 1))).erase (Fin.last N)) (f := e)
    rw [Finset.card_erase_of_mem (Finset.mem_univ _), Finset.card_univ, Fintype.card_fin] at h2
    omega
  · intro hx
    have hsub : (Finset.univ : Finset (Fin (N + 1))).image e ⊆ Finset.univ.filter fun p => x ≤ s0 p := by
      intro p hp
      obtain ⟨k, -, rfl⟩ := Finset.mem_image.mp hp
      simpa using hx.trans (hge k)
    have h1 := Finset.card_le_card hsub
    rwa [Finset.card_image_of_injective _ he, Finset.card_univ, Fintype.card_fin] at h1

/-- The interval of step `t`. -/
def Bis (v : EReal) (t : ℕ) (p : EReal × EReal) : Prop :=
  ∃ a b : ℝ, p = ((a : EReal), (b : EReal)) ∧ b - a = 5 / 4 / 2 ^ t ∧ 1 / 4 ≤ a ∧ (a = 1 / 4 ∨ (a : EReal) ≤ v) ∧
    v < (b : EReal)

theorem Bis.zero (hv : v < ((3 / 2 : ℝ) : EReal)) : Bis v 0 (((1 / 4 : ℝ) : EReal), ((3 / 2 : ℝ) : EReal)) :=
  ⟨1 / 4, 3 / 2, rfl, by norm_num, le_rfl, .inl rfl, hv⟩

theorem Bis.step {t : ℕ} {p q : EReal × EReal} (h : Bis v t p) (c : Prop)
    (hc : c ↔ ((1 / 2 : ℝ) : EReal) * (p.1 + p.2) ≤ v)
    (h1 : Upd c q.1 (((1 / 2 : ℝ) : EReal) * (p.1 + p.2)) p.1)
    (h2 : Upd c q.2 p.2 (((1 / 2 : ℝ) : EReal) * (p.1 + p.2))) : Bis v (t + 1) q := by
  obtain ⟨a, b, rfl, hab, ha, hor, hb⟩ := h
  have hmid : ((1 / 2 : ℝ) : EReal) * ((a : EReal) + (b : EReal)) = ((1 / 2 * (a + b) : ℝ) : EReal) := by
    push_cast; rfl
  have hpos : 0 < (5 : ℝ) / 4 / 2 ^ t := by positivity
  have hpow : (5 : ℝ) / 4 / 2 ^ (t + 1) = 5 / 4 / 2 ^ t / 2 := by rw [pow_succ]; field_simp
  simp only [hmid] at hc h1 h2
  by_cases hcc : c
  · refine ⟨1 / 2 * (a + b), b, Prod.ext (h1.1 hcc) (h2.1 hcc), ?_, ?_, .inr (hc.mp hcc), hb⟩
    · rw [hpow, ← hab]; ring
    · linarith
  · refine ⟨a, 1 / 2 * (a + b), Prod.ext (h1.2 hcc) (h2.2 hcc), ?_, ha, hor, not_le.mp fun h => hcc (hc.mpr h)⟩
    rw [hpow, ← hab]; ring

variable {n : EReal} {top : Fin (N + 1) → EReal}

/-- The scores that reach the threshold found after fifty steps are the candidates'. -/
theorem Bis.rel {p : EReal × EReal} (h : Bis v 50 p) (hlast : top (Fin.last N) = v) (hge : ∀ k, v ≤ top k)
    (he : ∀ k, s0 (e k) = top k) (hn : ∀ p, s0 p = n ∨ ((1 / 4 : ℝ) : EReal) < s0 p) {w : EReal}
    (hoff : ∀ p, (∀ k, e k ≠ p) → s0 p ≤ w) (hwv : w ≤ v)
    (hw : ((2 ^ (-49 : ℤ) : ℝ) : EReal) ≤ v - w ∨ w ≤ ((1 / 4 : ℝ) : EReal)) {s : P → EReal}
    (hs : ∀ q, Upd (p.1 ≤ s0 q) (s q) (s0 q) n) : Rel e n top s top := by
  obtain ⟨a, b, rfl, hab, ha, hor, hb⟩ := h
  refine ⟨fun k => ?_, fun q hq => ?_, fun k => .inr rfl⟩
  · by_cases hc : (a : EReal) ≤ s0 (e k)
    · rw [(hs _).1 hc, he]
    · rw [(hs _).2 hc]
      rcases hor with rfl | h1
      · rcases hn (e k) with h2 | h2
        · rw [← h2, he]
        · exact absurd h2.le hc
      · exact absurd (h1.trans ((hge k).trans (he k).ge)) hc
  · by_cases hc : (a : EReal) ≤ s0 q
    · rw [(hs _).1 hc]
      rcases hn q with h2 | h2
      · exact h2
      · exfalso
        have hqw := hoff q hq
        have hwq : ((1 / 4 : ℝ) : EReal) < w := h2.trans_le hqw
        rcases hw with hw | hw
        · have hwb : w < (b : EReal) := hwv.trans_lt hb
          lift w to ℝ using ⟨ne_top_of_lt hwb, (bot_lt_of_lt hwq).ne'⟩
          lift v to ℝ using ⟨ne_top_of_lt hb, (bot_lt_of_lt (hwq.trans_le hwv)).ne'⟩
          rw [← EReal.coe_sub, EReal.coe_le_coe_iff] at hw
          have h3 : a ≤ w := EReal.coe_le_coe_iff.mp (hc.trans hqw)
          have h4 : v < b := EReal.coe_lt_coe_iff.mp hb
          have h5 : (5 : ℝ) / 4 / 2 ^ 50 < 2 ^ (-49 : ℤ) := by norm_num
          have h6 : w ≤ v - 2 ^ (-49 : ℤ) := le_sub_comm.mp hw
          generalize (2 : ℝ) ^ (-49 : ℤ) = d at h5 h6
          generalize (5 : ℝ) / 4 / 2 ^ 50 = d' at h5 hab
          linarith
        · exact absurd (hwq.trans_le hw) (lt_irrefl _)
    · exact (hs _).2 hc

end bis

/-! ## The merge -/

section merge
variable {Q : Type} {T : ℕ} {f : Fin T → Q} {S : ℕ → Q → EReal} {M : ℕ → EReal} {n : EReal}

/-- What is left before step `j`: nothing positive but the entries the list does not put before `j`. -/
theorem merge_inv (hf : Function.Injective f) (hanti : ∀ i j : Fin T, i ≤ j → S 0 (f j) ≤ S 0 (f i))
    (hoff : ∀ q, (∀ j, f j ≠ q) → ∀ j, S 0 q ≤ S 0 (f j)) (hinj : ∀ q q', 0 < S 0 q → S 0 q = S 0 q' → q = q')
    (hn : n ≤ 0) (hmax : ∀ t, IsMax (S t) (M t)) (hupd : ∀ t q, Upd (S t q = M t) (S (t + 1) q) n (S t q)) (t : ℕ)
    (ht : t ≤ T) :
    ∀ q, (S t q ≤ 0 ∧ (0 < S 0 q → ∃ i : Fin T, i.1 < t ∧ f i = q)) ∨
      (S t q = S 0 q ∧ ∀ i : Fin T, i.1 < t → 0 < S 0 (f i) → f i ≠ q) := by
  induction t with
  | zero => exact fun q => .inr ⟨rfl, fun i hi => absurd hi (Nat.not_lt_zero _)⟩
  | succ t ih =>
    have ih := ih (by omega)
    intro q
    let j : Fin T := ⟨t, by omega⟩
    by_cases hv : 0 < S 0 (f j)
    · have hjt : S t (f j) = S 0 (f j) := by
        rcases ih (f j) with h | h
        · obtain ⟨i, hi, hij⟩ := h.2 hv
          exact absurd (congrArg Fin.val (hf hij)) (by simp only [j]; omega)
        · exact h.1
      have hle : ∀ q, S t q ≤ S 0 (f j) := fun q => by
        rcases ih q with h | h
        · exact h.1.trans hv.le
        · rw [h.1]
          by_cases hq : ∃ i, f i = q
          · obtain ⟨i, rfl⟩ := hq
            by_cases hi : i.1 < t
            · exact not_lt.mp fun hlt => h.2 i hi (hv.trans hlt) rfl
            · exact hanti j i (by simp only [Fin.le_def, j]; omega)
          · exact hoff q (fun i hi => hq ⟨i, hi⟩) j
      have hM : M t = S 0 (f j) := (hmax t).unique ⟨hle, f j, hjt⟩
      by_cases hq : q = f j
      · subst hq
        exact .inl ⟨by rw [(hupd t _).1 (by rw [hM, hjt])]; exact hn, fun _ => ⟨j, by simp [j], rfl⟩⟩
      · have hne : S t q ≠ M t := fun h => by
          rw [hM] at h
          rcases ih q with h' | h'
          · exact absurd (h ▸ h'.1) (not_le.mpr hv)
          · rw [h'.1] at h
            exact hq (hinj q (f j) (h ▸ hv) h)
        rw [(hupd t q).2 hne]
        rcases ih q with h | h
        · exact .inl ⟨h.1, fun hp => let ⟨i, hi, h'⟩ := h.2 hp; ⟨i, by omega, h'⟩⟩
        · refine .inr ⟨h.1, fun i hi hp hiq => ?_⟩
          by_cases hit : i.1 < t
          · exact h.2 i hit hp hiq
          · have : i = j := Fin.ext (by simp only [j]; omega)
            exact hq (by rw [← hiq, this])
    · have hv' := not_lt.mp hv
      have hall : ∀ q, 0 < S 0 q → ∃ i : Fin T, i.1 < t ∧ f i = q := fun q hq => by
        by_cases hr : ∃ i, f i = q
        · obtain ⟨i, rfl⟩ := hr
          refine ⟨i, not_le.mp fun hti => ?_, rfl⟩
          exact absurd (hq.trans_le (hanti j i (by simp only [Fin.le_def, j]; omega))) hv
        · exact absurd (hq.trans_le (hoff q (fun i hi => hr ⟨i, hi⟩) j)) hv
      have hle : S t q ≤ 0 := by
        rcases ih q with h | h
        · exact h.1
        · rw [h.1]
          refine not_lt.mp fun hp => ?_
          obtain ⟨i, hi, rfl⟩ := hall q hp
          exact h.2 i hi hp rfl
      refine .inl ⟨?_, fun hp => let ⟨i, hi, h'⟩ := hall q hp; ⟨i, by omega, h'⟩⟩
      by_cases hq : S t q = M t
      · rw [(hupd t q).1 hq]; exact hn
      · rw [(hupd t q).2 hq]; exact hle

/-- The greatest left before step `j` is the list's entry `j`, if positive; then it lies there alone. -/
theorem merge_pos (hf : Function.Injective f) (hanti : ∀ i j : Fin T, i ≤ j → S 0 (f j) ≤ S 0 (f i))
    (hoff : ∀ q, (∀ j, f j ≠ q) → ∀ j, S 0 q ≤ S 0 (f j)) (hinj : ∀ q q', 0 < S 0 q → S 0 q = S 0 q' → q = q')
    (hn : n ≤ 0) (hmax : ∀ t, IsMax (S t) (M t)) (hupd : ∀ t q, Upd (S t q = M t) (S (t + 1) q) n (S t q)) (j : Fin T) :
    (0 < M j ↔ 0 < S 0 (f j)) ∧ (0 < S 0 (f j) → M j = S 0 (f j) ∧ ∀ q, S j q = M j ↔ q = f j) := by
  have ih := merge_inv hf hanti hoff hinj hn hmax hupd j j.2.le
  have hpos : 0 < S 0 (f j) → M j = S 0 (f j) ∧ ∀ q, S j q = M j ↔ q = f j := fun hv => by
    have hjt : S j (f j) = S 0 (f j) := by
      rcases ih (f j) with h | h
      · obtain ⟨i, hi, hij⟩ := h.2 hv
        exact absurd (congrArg Fin.val (hf hij)) (by omega)
      · exact h.1
    have hle : ∀ q, S j q ≤ S 0 (f j) := fun q => by
      rcases ih q with h | h
      · exact h.1.trans hv.le
      · rw [h.1]
        by_cases hq : ∃ i, f i = q
        · obtain ⟨i, rfl⟩ := hq
          by_cases hi : i.1 < j.1
          · exact not_lt.mp fun hlt => h.2 i hi (hv.trans hlt) rfl
          · exact hanti j i (by simp only [Fin.le_def]; omega)
        · exact hoff q (fun i hi => hq ⟨i, hi⟩) j
    have hM : M j = S 0 (f j) := (hmax j).unique ⟨hle, f j, hjt⟩
    refine ⟨hM, fun q => ⟨fun h => ?_, fun h => by rw [h, hM, hjt]⟩⟩
    rw [hM] at h
    rcases ih q with h' | h'
    · exact absurd (h ▸ h'.1) (not_le.mpr hv)
    · rw [h'.1] at h
      exact hinj q (f j) (h ▸ hv) h
  refine ⟨⟨fun hM => ?_, fun hv => (hpos hv).1 ▸ hv⟩, hpos⟩
  obtain ⟨q, hq⟩ := (hmax j).2
  rw [← hq] at hM
  rcases ih q with h | h
  · exact absurd hM (not_lt.mpr h.1)
  · rw [h.1] at hM
    by_cases hr : ∃ i, f i = q
    · obtain ⟨i, rfl⟩ := hr
      by_cases hi : i.1 < j.1
      · exact absurd rfl (h.2 i hi hM)
      · exact hM.trans_le (hanti j i (by simp only [Fin.le_def]; omega))
    · exact hM.trans_le (hoff q (fun i hi => hr ⟨i, hi⟩) j)

open Classical in
/-- As many of the list's entries are positive as there are positive scores, cut off at the list's length. -/
theorem merge_count [Fintype Q] {s : Q → EReal} (hf : Function.Injective f)
    (hoff : ∀ q, (∀ j, f j ≠ q) → ∀ j, s q ≤ s (f j)) :
    min (Finset.univ.filter fun q => 0 < s q).card T = (Finset.univ.filter fun j : Fin T => 0 < s (f j)).card := by
  have hle : (Finset.univ.filter fun j : Fin T => 0 < s (f j)).card ≤ (Finset.univ.filter fun q => 0 < s q).card := by
    rw [← Finset.card_image_of_injective _ hf]
    refine Finset.card_le_card fun q hq => ?_
    obtain ⟨j, hj, rfl⟩ := Finset.mem_image.mp hq
    simpa using hj
  by_cases hall : ∀ j, 0 < s (f j)
  · have h1 : (Finset.univ.filter fun j : Fin T => 0 < s (f j)) = Finset.univ := by
      ext j; simpa using hall j
    rw [h1, Finset.card_univ, Fintype.card_fin] at hle ⊢
    exact min_eq_right hle
  · push Not at hall
    obtain ⟨j, hj⟩ := hall
    have hge : (Finset.univ.filter fun q => 0 < s q).card ≤ (Finset.univ.filter fun j : Fin T => 0 < s (f j)).card := by
      rw [← Finset.card_image_of_injective _ hf]
      refine Finset.card_le_card fun q hq => ?_
      have hq' : 0 < s q := by simpa using hq
      by_cases hr : ∃ i, f i = q
      · obtain ⟨i, rfl⟩ := hr
        exact Finset.mem_image.mpr ⟨i, by simpa using hq', rfl⟩
      · exact absurd (hq'.trans_le (hoff q (fun i hi => hr ⟨i, hi⟩) j)) (not_lt.mpr hj)
    have h3 := Finset.card_le_univ (Finset.univ.filter fun j : Fin T => 0 < s (f j))
    rw [Fintype.card_fin] at h3
    omega

end merge

/-! ## The overlap of two boxes (y1, x1, y2, x2) -/

open Idealize.ShloMosaic in
/-- The constants of the scores' and boxes' arithmetic. -/
abbrev half : EReal := Ideal.ofBits .f32 1056964608#32
open Idealize.ShloMosaic in
abbrev neg1 : EReal := Ideal.ofBits .f32 3212836864#32
open Idealize.ShloMosaic in
abbrev thr : EReal := Ideal.ofBits .f32 1048576000#32

def inter (a b : Fin 4 → EReal) : EReal :=
  max (min (b 2) (a 2) - max (b 0) (a 0)) 0 * max (min (b 3) (a 3) - max (b 1) (a 1)) 0

def area (b : Fin 4 → EReal) : EReal := max (b 2 - b 0) 0 * max (b 3 - b 1) 0

open Idealize.ShloMosaic in
def ov (a b : Fin 4 → EReal) : EReal :=
  Ideal.div (inter a b) (max (area b + area a - inter a b) (Ideal.ofBits .f32 814313567#32))

/-- Two boxes overlap by more than half. -/
def Sup (a b : Fin 4 → EReal) : Prop := half < ov a b

open Idealize.ShloMosaic in
theorem half_eq : half = ((1 / 2 : ℝ) : EReal) := by
  simp [half, Ideal.ofBits, Ideal.ieee, -EReal.coe_mul]; norm_num

open Idealize.ShloMosaic in
theorem thr_eq : thr = ((1 / 4 : ℝ) : EReal) := by
  simp [thr, Ideal.ofBits, Ideal.ieee, -EReal.coe_mul]; norm_num

open Idealize.ShloMosaic in
theorem neg1_eq : neg1 = ((-1 : ℝ) : EReal) := by
  simp [neg1, Ideal.ofBits, Ideal.ieee, -EReal.coe_mul, -EReal.coe_neg]; norm_num

theorem neg1_neg : neg1 < 0 := by
  rw [neg1_eq]; exact_mod_cast (by norm_num : (-1 : ℝ) < 0)

open Idealize.ShloMosaic in
theorem top_eq : Ideal.ofBits .f32 1069547520#32 = ((3 / 2 : ℝ) : EReal) := by
  simp [Ideal.ofBits, Ideal.ieee, -EReal.coe_mul]; norm_num

open Idealize.ShloMosaic in
theorem gap_eq : Ideal.ofBits .f32 654311424#32 = ((2 ^ (-49 : ℤ) : ℝ) : EReal) := by
  simp [Ideal.ofBits, Ideal.ieee, -EReal.coe_mul]; norm_num

open Idealize.ShloMosaic in
theorem bot_eq : Ideal.ofBits .f32 4286578688#32 = (⊥ : EReal) := by
  simp [Ideal.ofBits, Ideal.ieee]

/-! ## Sums and maxima over a grid -/

theorem fold_max_isMax {P : Type} [Fintype P] [Nonempty P] (s : P → EReal) :
    IsMax s (Finset.fold max ⊥ s Finset.univ) := by
  refine ⟨fun p => (Finset.le_fold_max _).mpr (.inr ⟨p, Finset.mem_univ p, le_rfl⟩), ?_⟩
  have h := (Finset.le_fold_max (b := ⊥) (f := s) (s := Finset.univ) (Finset.fold max ⊥ s Finset.univ)).mp le_rfl
  rcases h with h | ⟨p, -, hp⟩
  · obtain ⟨p⟩ := ‹Nonempty P›
    exact ⟨p, le_antisymm ((Finset.le_fold_max _).mpr (.inr ⟨p, Finset.mem_univ p, le_rfl⟩)) (h.trans bot_le)⟩
  · exact ⟨p, le_antisymm ((Finset.le_fold_max _).mpr (.inr ⟨p, Finset.mem_univ p, le_rfl⟩)) hp⟩

/-- A sum against the indicator of one place is the value there. -/
theorem sum_single {P : Type} [Fintype P] (o y : P → EReal) (p : P) (h1 : o p = 1) (h0 : ∀ q, q ≠ p → o q = 0) :
    ∑ q, o q * y q = y p := by
  rw [Finset.sum_eq_single p (fun q _ hq => by rw [h0 q hq, zero_mul]) (fun h => absurd (Finset.mem_univ p) h), h1,
    one_mul]

end Nms

end
-- ==== Proof.Nms.Value.KRead.lean ====
/- The first kernel's steps, read at an index over the extended reals. -/
module

public import proofs.«01_k».proof.Proof.Nms.KernelIdeal.Stage1
public import proofs.«01_k».proof.Proof.Nms.Value.Math
public import Idealize.ShloMosaic.Lib.Pointwise

@[expose] public section

set_option maxRecDepth 16384

noncomputable section

namespace Cert.KernelIdeal.Nms

open Cert.KernelIdeal.Gen
open Idealize.ShloMosaic
open _root_.Nms (IsMax Upd PRun Bis)

/-- The places of an image. -/
abbrev P := Fin 126 × Fin 128

/-- The entry of an image at a place. -/
abbrev g (s : FVec Ideal S126x128 .f32) (p : P) : EReal := s (ix2 p.1 p.2)

/-! ## Words -/

theorem select_dec {α : Type} (c : Prop) [Decidable c] (x y : α) :
    Scalar.select (BitVec.ofBool (decide c)) x y = if c then x else y := by
  by_cases h : c
  · rw [decide_eq_true h, if_pos h]; rfl
  · rw [decide_eq_false h, if_neg h]; rfl

theorem ori_dec (c d : Prop) [Decidable c] [Decidable d] :
    IntOp.ori (BitVec.ofBool (decide c)) (BitVec.ofBool (decide d)) = BitVec.ofBool (decide (c ∨ d)) := by
  by_cases h : c <;> by_cases h' : d <;> simp [h, h', IntOp.ori]

theorem eq_dec (x y : BitVec 32) : IntOp.cmpi .eq x y = BitVec.ofBool (decide (x = y)) := by
  simp [IntOp.cmpi, beq_eq_decide]

theorem word_inj {i j : ℕ} (hi : i < 2 ^ 32) (hj : j < 2 ^ 32) : BitVec.ofNat 32 i = BitVec.ofNat 32 j ↔ i = j := by
  refine ⟨fun h => ?_, fun h => h ▸ rfl⟩
  have := congrArg BitVec.toNat h
  rwa [BitVec.toNat_ofNat, BitVec.toNat_ofNat, Nat.mod_eq_of_lt hi, Nat.mod_eq_of_lt hj] at this

theorem float_dec (c : Prop) [Decidable c] :
    FloatOps.sitofp (F := Ideal) .f32 (BitVec.setWidth 32 (BitVec.ofBool (decide c))) = if c then (1 : EReal) else 0 := by
  by_cases h : c
  · rw [decide_eq_true h, if_pos h]
    show (((BitVec.setWidth 32 (BitVec.ofBool true)).toInt : ℝ) : EReal) = 1
    rw [show (BitVec.setWidth 32 (BitVec.ofBool true)).toInt = 1 by decide]
    norm_num
  · rw [decide_eq_false h, if_neg h]
    show (((BitVec.setWidth 32 (BitVec.ofBool false)).toInt : ℝ) : EReal) = 0
    rw [show (BitVec.setWidth 32 (BitVec.ofBool false)).toInt = 0 by decide]
    norm_num

/-- A sum of zeros and ones counts. -/
theorem fold_count {K : Type} [DecidableEq K] (c : K → Prop) [DecidablePred c] (t : Finset K) :
    t.fold IntOp.addi 0#32 (fun k => BitVec.setWidth 32 (BitVec.ofBool (decide (c k)))) = BitVec.ofNat 32 (t.filter c).card := by
  induction t using Finset.induction_on with
  | empty => rfl
  | insert a t ha ih =>
    rw [Finset.fold_insert ha, ih, Finset.filter_insert]
    by_cases h : c a
    · rw [if_pos h, decide_eq_true h, Finset.card_insert_of_notMem (fun h' => ha (Finset.mem_filter.mp h').1), add_comm,
        BitVec.ofNat_add]
      rfl
    · rw [if_neg h, decide_eq_false h]
      show (BitVec.setWidth 32 (BitVec.ofBool false)) + _ = _
      rw [show BitVec.setWidth 32 (BitVec.ofBool false) = 0#32 by decide, BitVec.zero_add]

theorem sge_dec (n : ℕ) (hn : n < 2 ^ 31) :
    Scalar.cmpi .sge (BitVec.ofNat 32 n) 200#32 = BitVec.ofBool (decide (200 ≤ n)) := by
  have h : (BitVec.ofNat 32 n).toInt = (n : ℤ) := by
    rw [BitVec.toInt_eq_toNat_of_lt, BitVec.toNat_ofNat, Nat.mod_eq_of_lt (by omega)]
    rw [BitVec.toNat_ofNat, Nat.mod_eq_of_lt (by omega)]; omega
  have h2 : (200#32).toInt = 200 := by decide
  show BitVec.ofBool (BitVec.sle 200#32 (BitVec.ofNat 32 n)) = _
  rw [BitVec.sle, h, h2]
  exact congrArg BitVec.ofBool (decide_eq_decide.mpr (by omega))

/-! ## Folds -/

theorem fold_inv {n : ℕ} {σ : Type} (f : Fin n → σ → σ) (Inv : ℕ → σ → Prop) (x : σ) (h0 : Inv 0 x)
    (hs : ∀ (k : Fin n) y, Inv k y → Inv (k + 1) (f k y)) : Inv n (Scf.fold f x) := by
  rw [Scf.fold_eq]
  suffices h : ∀ m (hm : m ≤ n), Inv m (((List.finRange m).map (Fin.castLE hm)).foldl (fun a k => f k a) x) by
    have := h n le_rfl
    rwa [show (List.finRange n).map (Fin.castLE le_rfl) = List.finRange n from by simp] at this
  intro m
  induction m with
  | zero => intro _; exact h0
  | succ m ih =>
    intro hm
    rw [List.finRange_succ_last, List.map_append, List.foldl_append, List.map_map]
    exact hs ⟨m, hm⟩ _ (ih (by omega))

/-! ## Reductions -/

theorem smax_eq (s : FVec Ideal S126x128 .f32) :
    smax s = Finset.fold max (Ideal.ofBits .f32 4286578688#32) (g s) Finset.univ := by
  pointwise [smax]

theorem smax_isMax (s : FVec Ideal S126x128 .f32) : IsMax (g s) (smax s) := by
  rw [smax_eq, _root_.Nms.bot_eq]
  exact _root_.Nms.fold_max_isMax _

theorem hot_eq (s : FVec Ideal S126x128 .f32) (p : P) : g (oneHot s) p = if g s p = smax s then 1 else 0 := by
  refine Eq.trans ?_ (float_dec _)
  pointwise [oneHot]

theorem dot_eq (a b : FVec Ideal S126x128 .f32) : dotAll a b = ∑ p : P, g a p * g b p := by
  rw [Fintype.sum_prod_type]
  pointwise [dotAll]

/-- Where the greatest score stands alone, the product's sum reads the other image there. -/
theorem dot_hot (s y : FVec Ideal S126x128 .f32) (p : P) (h : ∀ q, g s q = smax s ↔ q = p) : dotAll (oneHot s) y = g y p := by
  rw [dot_eq]
  refine _root_.Nms.sum_single (g (oneHot s)) (g y) p ?_ fun q hq => ?_
  · rw [hot_eq, if_pos ((h p).mpr rfl)]
  · rw [hot_eq, if_neg fun hc => hq ((h q).mp hc)]

theorem count_eq (s : FVec Ideal S126x128 .f32) (t : EReal) :
    countGe s t = BitVec.ofNat 32 (Finset.univ.filter fun p : P => t ≤ g s p).card := by
  refine Eq.trans ?_ (fold_count (fun p : P => t ≤ g s p) Finset.univ)
  pointwise [countGe]

theorem enough_eq (s : FVec Ideal S126x128 .f32) (t : EReal) : Scalar.cmpi .sge (countGe s t) 200#32
    = BitVec.ofBool (decide (200 ≤ (Finset.univ.filter fun p : P => t ≤ g s p).card)) := by
  rw [count_eq]
  refine sge_dec _ (lt_of_le_of_lt (Finset.card_filter_le _ _) ?_)
  simp only [Finset.card_univ, Fintype.card_prod, Fintype.card_fin]
  norm_num

/-! ## The bisection -/

theorem mid_eq (p : EReal × EReal) : bisMid (F := Ideal) p = ((1 / 2 : ℝ) : EReal) * (p.1 + p.2) := by
  rw [← _root_.Nms.half_eq]; rfl

/-- The bisection closes in on the 200th greatest score. -/
theorem bis_end (s : FVec Ideal S126x128 .f32) {v : EReal} (hv : v < ((3 / 2 : ℝ) : EReal))
    (hc : ∀ x, 200 ≤ (Finset.univ.filter fun p : P => x ≤ g s p).card ↔ x ≤ v) :
    Bis v 50 (bisEnd (F := Ideal) s _root_.Nms.thr (Ideal.ofBits .f32 1069547520#32)) := by
  rw [_root_.Nms.thr_eq, _root_.Nms.top_eq]
  refine fold_inv (n := k0_t1_loop.trips) (fun _ => bisStep (F := Ideal) s) (Bis v) _ (Bis.zero hv) fun k p hp => ?_
  have e1 : bisStep (F := Ideal) s p = (if 200 ≤ (Finset.univ.filter fun q : P => bisMid (F := Ideal) p ≤ g s q).card then bisMid (F := Ideal) p else p.1,
      if 200 ≤ (Finset.univ.filter fun q : P => bisMid (F := Ideal) p ≤ g s q).card then p.2 else bisMid (F := Ideal) p) := by
    unfold bisStep
    rw [enough_eq, select_dec, select_dec]
  rw [e1, mid_eq]
  refine hp.step _ (hc _) ⟨fun h => if_pos h, fun h => if_neg h⟩ ⟨fun h => if_pos h, fun h => if_neg h⟩

theorem cut_eq (s : FVec Ideal S126x128 .f32) (t : EReal) (p : P) :
    g (cut s t) p = if t ≤ g s p then g s p else _root_.Nms.neg1 := by
  pointwise [cut]

/-! ## The selection -/

section sel
variable (Y : Fin 4 → FVec Ideal S126x128 .f32)

/-- The box at a place. -/
def boxAt (p : P) : Fin 4 → EReal := fun d => g (Y d) p

theorem iou_eq (a : Fin 4 → EReal) (p : P) :
    g (iouV (Y 0) (Y 1) (Y 2) (Y 3) (a 0) (a 1) (a 2) (a 3)) p = _root_.Nms.ov a (boxAt Y p) := by
  pointwise [iouV, interV, zI, z0]
  rfl

/-- The box the step reads, and the scores it leaves. -/
def hotBox (s : FVec Ideal S126x128 .f32) : Fin 4 → EReal := fun d => dotAll (oneHot s) (Y d)

def rest (s : FVec Ideal S126x128 .f32) : FVec Ideal S126x128 .f32 :=
  select (ori (cmpf .ogt (iouV (Y 0) (Y 1) (Y 2) (Y 3) (hotBox Y s 0) (hotBox Y s 1) (hotBox Y s 2) (hotBox Y s 3))
    (broadcast S126x128 (Scalar.ofBits .f32 0x3F000000#32))) (cmpf .ogt (oneHot s) zI))
    (broadcast S126x128 (Scalar.ofBits .f32 0xBF800000#32)) s

theorem rest_upd (s : FVec Ideal S126x128 .f32) (p : P) :
    Upd (_root_.Nms.Sup (hotBox Y s) (boxAt Y p) ∨ g s p = smax s) (g (rest Y s) p) _root_.Nms.neg1 (g s p) := by
  classical
  have e : g (rest Y s) p = if _root_.Nms.Sup (hotBox Y s) (boxAt Y p) ∨ g s p = smax s then _root_.Nms.neg1 else g s p := by
    refine Eq.trans (b := Scalar.select (IntOp.ori (BitVec.ofBool (decide (_root_.Nms.half < g (iouV (Y 0) (Y 1) (Y 2) (Y 3)
      (hotBox Y s 0) (hotBox Y s 1) (hotBox Y s 2) (hotBox Y s 3)) p))) (BitVec.ofBool (decide (0 < g (oneHot s) p))))
      _root_.Nms.neg1 (g s p)) ?_ ?_
    · unfold rest
      generalize iouV (Y 0) (Y 1) (Y 2) (Y 3) (hotBox Y s 0) (hotBox Y s 1) (hotBox Y s 2) (hotBox Y s 3) = I
      generalize oneHot s = O
      pointwise [zI, z0]
    · rw [ori_dec, select_dec, iou_eq]
      refine if_congr (or_congr Iff.rfl ?_) rfl rfl
      rw [hot_eq]
      by_cases h : g s p = smax s
      · simp [h]
      · simp [h]
  rw [e]
  exact ⟨fun h => if_pos h, fun h => if_neg h⟩

/-- The scores before selection `t`, from the scores `s`. -/
def leftAt (s : FVec Ideal S126x128 .f32) (t : ℕ) : FVec Ideal S126x128 .f32 := (rest Y)^[t] s

theorem pRun (s : FVec Ideal S126x128 .f32) : PRun (boxAt Y) _root_.Nms.Sup _root_.Nms.neg1 (fun t => g (leftAt Y s t))
    (fun t => smax (leftAt Y s t)) (fun t => hotBox Y (leftAt Y s t)) where
  max t := smax_isMax _
  box t p h := funext fun d => dot_hot _ _ p h
  upd t p := by
    have e : leftAt Y s (t + 1) = rest Y (leftAt Y s t) := Function.iterate_succ_apply' _ _ _
    simp only [e]
    exact rest_upd Y _ p

/-- A lane of a row after `t` trips. -/
def laneAt (s : FVec Ideal S126x128 .f32) (v : ℕ → EReal) (t : ℕ) (l : Fin 128) : EReal :=
  if l.val < t then (if 0 < smax (leftAt Y s l.val) then v l.val else 0) else 0

abbrev lanes : IVec S1x128 32 := iota .tc S1x128 32 [1] iota_S1x128_d1_w32

theorem pick_eq (k : Fin k0_t2_loop.trips) (l : Fin 128) :
    pick (F := Ideal) lanes k (ix2 0 l) = if l.val = k.val then (1 : EReal) else 0 := by
  have hk : k.val < 100 := k.2
  have hl := l.2
  refine Eq.trans (b := FloatOps.sitofp (F := Ideal) .f32 (BitVec.setWidth 32 (IntOp.cmpi .eq (BitVec.ofNat 32 l.val) (Scf.iv 0#32 1#32 k.val)))) ?_ ?_
  · pointwise [pick]
  · rw [eq_dec, float_dec]
    refine if_congr ?_ rfl rfl
    rw [show Scf.iv 0#32 1#32 k.val = BitVec.ofNat 32 k.val from by unfold Scf.iv; rw [BitVec.zero_add, BitVec.mul_one]]
    exact word_inj (by omega) (by omega)

theorem put_eq (s : FVec Ideal S126x128 .f32) (k : Fin k0_t2_loop.trips) (v : EReal) (o : FVec Ideal S1x128 .f32) (l : Fin 128) :
    putLane lanes k s v o (ix2 0 l)
      = o (ix2 0 l) + (if 0 < smax s then v else 0) * (if l.val = k.val then (1 : EReal) else 0) := by
  rw [← pick_eq]
  unfold putLane
  generalize pick (F := Ideal) lanes k = Q
  generalize smax s = M
  pointwise [z0]

theorem put_lane (s : FVec Ideal S126x128 .f32) (k : Fin k0_t2_loop.trips) (v : ℕ → EReal) (o : FVec Ideal S1x128 .f32)
    (h : ∀ l, o (ix2 0 l) = laneAt Y s v k l) (l : Fin 128) :
    putLane lanes k (leftAt Y s k) (v k) o (ix2 0 l) = laneAt Y s v (k + 1) l := by
  rw [put_eq, h, laneAt, laneAt]
  by_cases hl : l.val = k.val
  · rw [if_neg (by omega), if_pos hl, zero_add, mul_one, if_pos (show l.val < k.val + 1 by omega), hl]
  · rw [if_neg hl, mul_zero, add_zero]
    exact if_congr (by omega) rfl rfl

/-- What all selections of a class leave. -/
structure Ends (s : FVec Ideal S126x128 .f32) (t : ℕ) (x : ClassSt Ideal) : Prop where
  left : x.1 = leftAt Y s t
  score : ∀ l, x.2.1 (ix2 0 l) = laneAt Y s (fun t => smax (leftAt Y s t)) t l
  box0 : ∀ l, x.2.2.1 (ix2 0 l) = laneAt Y s (fun t => hotBox Y (leftAt Y s t) 0) t l
  box1 : ∀ l, x.2.2.2.1 (ix2 0 l) = laneAt Y s (fun t => hotBox Y (leftAt Y s t) 1) t l
  box2 : ∀ l, x.2.2.2.2.1 (ix2 0 l) = laneAt Y s (fun t => hotBox Y (leftAt Y s t) 2) t l
  box3 : ∀ l, x.2.2.2.2.2 (ix2 0 l) = laneAt Y s (fun t => hotBox Y (leftAt Y s t) 3) t l

theorem step_eq (k : Fin k0_t2_loop.trips) (s : FVec Ideal S126x128 .f32) (o0 o1 o2 o3 o4 : FVec Ideal S1x128 .f32) :
    nmsStep (F := Ideal) (Y 0) (Y 1) (Y 2) (Y 3) lanes k (s, o0, o1, o2, o3, o4)
      = (rest Y s, putLane lanes k s (smax s) o0, putLane lanes k s (hotBox Y s 0) o1, putLane lanes k s (hotBox Y s 1) o2,
        putLane lanes k s (hotBox Y s 2) o3, putLane lanes k s (hotBox Y s 3) o4) := by
  unfold nmsStep rest hotBox
  rfl

theorem class_end (s : FVec Ideal S126x128 .f32) :
    Ends Y s 100 (classEnd (F := Ideal) (Y 0) (Y 1) (Y 2) (Y 3) lanes s) := by
  refine fold_inv (n := k0_t2_loop.trips) (nmsStep (F := Ideal) (Y 0) (Y 1) (Y 2) (Y 3) lanes) (Ends Y s) _ ?_ fun k x h => ?_
  · have hz : ∀ (v : ℕ → EReal) (l : Fin 128), (k0_pay321 (F := Ideal)) (ix2 0 l) = laneAt Y s v 0 l := fun v l => by
      rw [laneAt, if_neg (Nat.not_lt_zero _)]
      exact Ideal.ofBits_zero_f32
    exact ⟨rfl, hz _, hz _, hz _, hz _, hz _⟩
  · obtain ⟨x0, x1, x2, x3, x4, x5⟩ := x
    obtain ⟨h0, h1, h2, h3, h4, h5⟩ := h
    simp only at h0
    subst h0
    have e : leftAt Y s (k + 1) = rest Y (leftAt Y s k) := Function.iterate_succ_apply' _ _ _
    rw [step_eq]
    exact ⟨e.symm, put_lane Y s k (fun t => smax (leftAt Y s t)) x1 h1,
      put_lane Y s k (fun t => hotBox Y (leftAt Y s t) 0) x2 h2, put_lane Y s k (fun t => hotBox Y (leftAt Y s t) 1) x3 h3,
      put_lane Y s k (fun t => hotBox Y (leftAt Y s t) 2) x4 h4, put_lane Y s k (fun t => hotBox Y (leftAt Y s t) 3) x5 h5⟩

end sel

end Cert.KernelIdeal.Nms

end
-- ==== Proof.Nms.Value.KOut1.lean ====
/- What the second region's body leaves in its output blocks, read at an index over the extended reals. -/
module

public import proofs.«01_k».proof.Proof.Nms.KernelIdeal.Frame
public import proofs.«01_k».proof.Proof.Nms.Value.KRead
public import Idealize.ShloMosaic.Lib.Pipeline.ValueKit

@[expose] public section

set_option maxRecDepth 65536

noncomputable section

namespace Cert.KernelIdeal.Nms

open Cert.KernelIdeal.Gen
open Idealize.ShloMosaic Idealize.ShloMosaic.TcCoe
open _root_.Nms (IsMax Upd)

/-! ## One trip -/

/-- The carried values: the scores left, then the six rows. -/
abbrev MSt : Type := FVec Ideal S80x128 .f32 × FVec Ideal S1x128 .f32 × FVec Ideal S1x128 .f32 × FVec Ideal S1x128 .f32
  × FVec Ideal S1x128 .f32 × FVec Ideal S1x128 .f32 × FVec Ideal S1x128 .f32

/-- A place of the merge's image: a class and a lane. -/
abbrev Q := Fin 80 × Fin 128

abbrev mg (s : FVec Ideal S80x128 .f32) (q : Q) : EReal := s (ix2 q.1 q.2)

theorem plane_inb (d : Fin 4) : ∀ a : Fin S1x80x4x128.rank, (![0, 0, d.val, 0] : Fin 4 → ℕ) a + S1x80x1x128.size a ≤ S1x80x4x128.size a := by
  intro a
  have := d.2
  fin_cases a <;> simp [Shape.size] <;> omega

/-- One coordinate of the selected boxes, all classes and lanes. -/
def plane (x1 : Vec Ideal S1x80x4x128 .f32) (d : Fin 4) : FVec Ideal S80x128 .f32 :=
  shapeCast S80x128 (View.ld x1 (Rect.unit ![0, 0, d.val, 0] S1x80x1x128.size (plane_inb d))) shapeCasts_S1x80x1x128_S80x128

/-- The sum of a product over the merge's image. -/
def mdot (a b : FVec Ideal S80x128 .f32) : EReal :=
  extractAt ![0, 0, 0] (shapeCast S1x1x1 (multiReduction .add [1, 2] S1 (shapeCast S1x80x128 (mulf a b)
    shapeCasts_S80x128_S1x80x128) 0x00000000#32 reduces_S1x80x128_S1 (.inl rfl) rfl) shapeCasts_S1_S1x1x1)
    inpos_S1x1x1_p0_0_0

/-- A row with one value added at the trip's lane. -/
def mput (k : Fin k1_t1_loop.trips) (s : FVec Ideal S80x128 .f32) (v : EReal) (o : FVec Ideal S1x128 .f32) : FVec Ideal S1x128 .f32 :=
  k1_pay6 (F := Ideal) o (Scf.iv 0#32 1#32 k) v (Scalar.cmpf .ogt (k1_pay16 s) (Scalar.ofBits .f32 0x00000000#32))

def mrest (s : FVec Ideal S80x128 .f32) : FVec Ideal S80x128 .f32 := k1_pay4 s (k1_pay17 s)

/-- One trip of the merge. -/
def mstep (x1 : Vec Ideal S1x80x4x128 .f32) (k : Fin k1_t1_loop.trips) (x : MSt) : MSt :=
  (mrest x.1, mput k x.1 (k1_pay16 x.1) x.2.1, mput k x.1 (mdot (k1_pay17 x.1) (k1_pay2 (F := Ideal))) x.2.2.1,
    mput k x.1 (mdot (k1_pay17 x.1) (plane x1 0)) x.2.2.2.1, mput k x.1 (mdot (k1_pay17 x.1) (plane x1 1)) x.2.2.2.2.1,
    mput k x.1 (mdot (k1_pay17 x.1) (plane x1 2)) x.2.2.2.2.2.1, mput k x.1 (mdot (k1_pay17 x.1) (plane x1 3)) x.2.2.2.2.2.2)

/-! ## Reads -/

theorem mmax_isMax (s : FVec Ideal S80x128 .f32) : IsMax (mg s) (k1_pay16 s) := by
  have e : k1_pay16 s = Finset.fold max (Ideal.ofBits .f32 4286578688#32) (mg s) Finset.univ := by
    pointwise [k1_pay16]
  rw [e, _root_.Nms.bot_eq]
  exact _root_.Nms.fold_max_isMax _

theorem mhot_eq (s : FVec Ideal S80x128 .f32) (q : Q) : mg (k1_pay17 s) q = if mg s q = k1_pay16 s then 1 else 0 := by
  refine Eq.trans ?_ (float_dec _)
  unfold k1_pay17
  generalize k1_pay16 s = M
  pointwise []

theorem mdot_eq (a b : FVec Ideal S80x128 .f32) : mdot a b = ∑ q : Q, mg a q * mg b q := by
  rw [Fintype.sum_prod_type]
  pointwise [mdot]

theorem mdot_hot (s y : FVec Ideal S80x128 .f32) (q : Q) (h : ∀ r, mg s r = k1_pay16 s ↔ r = q) : mdot (k1_pay17 s) y = mg y q := by
  rw [mdot_eq]
  refine _root_.Nms.sum_single (mg (k1_pay17 s)) (mg y) q ?_ fun r hr => ?_
  · rw [mhot_eq, if_pos ((h q).mpr rfl)]
  · rw [mhot_eq, if_neg fun hc => hr ((h r).mp hc)]

theorem class_eq (q : Q) : mg (k1_pay2 (F := Ideal)) q = FloatOps.sitofp (F := Ideal) .f32 (BitVec.ofNat 32 q.1.val) := by
  pointwise [k1_pay2]

theorem mrest_upd (s : FVec Ideal S80x128 .f32) (q : Q) : Upd (mg s q = k1_pay16 s) (mg (mrest s) q) _root_.Nms.neg1 (mg s q) := by
  classical
  have e : mg (mrest s) q = if 0 < mg (k1_pay17 s) q then _root_.Nms.neg1 else mg s q := by
    unfold mrest
    generalize k1_pay17 s = O
    refine Eq.trans ?_ (select_dec _ _ _)
    pointwise [k1_pay4]
  rw [mhot_eq] at e
  by_cases h : mg s q = k1_pay16 s
  · refine ⟨fun _ => ?_, fun h' => absurd h h'⟩
    rw [e, if_pos]; rw [if_pos h]; exact one_pos
  · refine ⟨fun h' => absurd h' h, fun _ => ?_⟩
    rw [e, if_neg]; rw [if_neg h]; exact lt_irrefl _

/-! ## The lanes -/

/-- The scores before trip `t`. -/
def mleft (s : FVec Ideal S80x128 .f32) (t : ℕ) : FVec Ideal S80x128 .f32 := mrest^[t] s

def mlane (s : FVec Ideal S80x128 .f32) (v : ℕ → EReal) (t : ℕ) (l : Fin 128) : EReal :=
  if l.val < t then (if 0 < k1_pay16 (mleft s l.val) then v l.val else 0) else 0

theorem mpick_eq (k : Fin k1_t1_loop.trips) (l : Fin 128) :
    k1_pay5 (F := Ideal) (Scf.iv 0#32 1#32 k) (ix2 0 l) = if l.val = k.val then (1 : EReal) else 0 := by
  have hk : k.val < 100 := k.2
  have hl := l.2
  refine Eq.trans (b := FloatOps.sitofp (F := Ideal) .f32 (BitVec.setWidth 32 (IntOp.cmpi .eq (BitVec.ofNat 32 l.val) (Scf.iv 0#32 1#32 k.val)))) ?_ ?_
  · pointwise [k1_pay5]
  · rw [eq_dec, float_dec]
    refine if_congr ?_ rfl rfl
    rw [show Scf.iv 0#32 1#32 k.val = BitVec.ofNat 32 k.val from by unfold Scf.iv; rw [BitVec.zero_add, BitVec.mul_one]]
    exact word_inj (by omega) (by omega)

theorem mput_eq (s : FVec Ideal S80x128 .f32) (k : Fin k1_t1_loop.trips) (v : EReal) (o : FVec Ideal S1x128 .f32) (l : Fin 128) :
    mput k s v o (ix2 0 l) = o (ix2 0 l) + (if 0 < k1_pay16 s then v else 0) * (if l.val = k.val then (1 : EReal) else 0) := by
  rw [← mpick_eq]
  unfold mput k1_pay6
  generalize k1_pay5 (F := Ideal) (Scf.iv 0#32 1#32 k) = W
  generalize k1_pay16 s = M
  pointwise []

theorem mput_lane (s : FVec Ideal S80x128 .f32) (k : Fin k1_t1_loop.trips) (v : ℕ → EReal) (o : FVec Ideal S1x128 .f32)
    (h : ∀ l, o (ix2 0 l) = mlane s v k l) (l : Fin 128) :
    mput k (mleft s k) (v k) o (ix2 0 l) = mlane s v (k + 1) l := by
  rw [mput_eq, h, mlane, mlane]
  by_cases hl : l.val = k.val
  · rw [if_neg (by omega), if_pos hl, zero_add, mul_one, if_pos (show l.val < k.val + 1 by omega), hl]
  · rw [if_neg hl, mul_zero, add_zero]
    exact if_congr (by omega) rfl rfl

/-- A value read at the greatest score of each trip. -/
abbrev mread (s y : FVec Ideal S80x128 .f32) (t : ℕ) : EReal := mdot (k1_pay17 (mleft s t)) y

/-- What the merge's trips leave. -/
structure MEnds (x1 : Vec Ideal S1x80x4x128 .f32) (s : FVec Ideal S80x128 .f32) (t : ℕ) (x : MSt) : Prop where
  left : x.1 = mleft s t
  score : ∀ l, x.2.1 (ix2 0 l) = mlane s (fun t => k1_pay16 (mleft s t)) t l
  cls : ∀ l, x.2.2.1 (ix2 0 l) = mlane s (mread s (k1_pay2 (F := Ideal))) t l
  box0 : ∀ l, x.2.2.2.1 (ix2 0 l) = mlane s (mread s (plane x1 0)) t l
  box1 : ∀ l, x.2.2.2.2.1 (ix2 0 l) = mlane s (mread s (plane x1 1)) t l
  box2 : ∀ l, x.2.2.2.2.2.1 (ix2 0 l) = mlane s (mread s (plane x1 2)) t l
  box3 : ∀ l, x.2.2.2.2.2.2 (ix2 0 l) = mlane s (mread s (plane x1 3)) t l

theorem MEnds.zero (x1 : Vec Ideal S1x80x4x128 .f32) (s : FVec Ideal S80x128 .f32) :
    MEnds x1 s 0 (s, k1_pay3 (F := Ideal), k1_pay3 (F := Ideal), k1_pay3 (F := Ideal), k1_pay3 (F := Ideal), k1_pay3 (F := Ideal), k1_pay3 (F := Ideal)) := by
  have hz : ∀ (v : ℕ → EReal) (l : Fin 128), (k1_pay3 (F := Ideal)) (ix2 0 l) = mlane s v 0 l := fun v l => by
    rw [mlane, if_neg (Nat.not_lt_zero _)]
    exact Ideal.ofBits_zero_f32
  exact ⟨rfl, hz _, hz _, hz _, hz _, hz _, hz _⟩

theorem MEnds.step {x1 : Vec Ideal S1x80x4x128 .f32} {s : FVec Ideal S80x128 .f32} (k : Fin k1_t1_loop.trips) {x : MSt}
    (h : MEnds x1 s k x) : MEnds x1 s (k + 1) (mstep x1 k x) := by
  obtain ⟨y, y1, y2, y3, y4, y5, y6⟩ := x
  obtain ⟨h0, h1, h2, h3, h4, h5, h6⟩ := h
  simp only at h0
  subst h0
  have e : mleft s (k + 1) = mrest (mleft s k) := Function.iterate_succ_apply' _ _ _
  exact ⟨e.symm, mput_lane s k (fun t => k1_pay16 (mleft s t)) y1 h1, mput_lane s k (mread s (k1_pay2 (F := Ideal))) y2 h2,
    mput_lane s k (mread s (plane x1 0)) y3 h3, mput_lane s k (mread s (plane x1 1)) y4 h4,
    mput_lane s k (mread s (plane x1 2)) y5 h5, mput_lane s k (mread s (plane x1 3)) y6 h6⟩

/-! ## The body's outputs -/

section body
variable (c : Dev nD) (i : grid1.Coords) (arg1 : Memref sig .tc .vmem S1x80x128 .f32) (harg1 : arg1.IsWhole) (arg2 : Memref sig .tc .vmem S1x80x4x128 .f32) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S1x4x128 .f32) (harg5 : arg5.IsWhole) (arg6 : Memref sig .tc .vmem S1x1x1 .i32) (harg6 : arg6.IsWhole)
  (x0 : Vec Ideal S1x80x128 .f32) (x1 : Vec Ideal S1x80x4x128 .f32)

theorem trip_eq (k : Fin k1_t1_loop.trips) (x : MSt) :
    tripR_k1_t1 (F := Ideal) Variants.none c none i arg1 harg1 arg2 harg2 arg3 harg3 arg4 harg4 arg5 harg5 arg6 harg6 (harg2.unread x1) k x
      = mstep x1 k x := by
  unfold tripR_k1_t1
  unfold trip_k1_t1
  frame_out
  sl_kernel_rfl

theorem st_ends (s : FVec Ideal S80x128 .f32) (n : ℕ) (hn : n ≤ k1_t1_loop.trips) : MEnds x1 s n
    (st_k1_t1 (F := Ideal) Variants.none c none i arg1 harg1 arg2 harg2 arg3 harg3 arg4 harg4 arg5 harg5 arg6 harg6 (harg2.unread x1)
      (s, k1_pay3 (F := Ideal), k1_pay3 (F := Ideal), k1_pay3 (F := Ideal), k1_pay3 (F := Ideal), k1_pay3 (F := Ideal), k1_pay3 (F := Ideal)) n) := by
  induction n with
  | zero => exact MEnds.zero x1 s
  | succ n ih =>
    have h := (ih (by omega)).step (x1 := x1) ⟨n, by omega⟩
    rw [← trip_eq c i arg1 harg1 arg2 harg2 arg3 harg3 arg4 harg4 arg5 harg5 arg6 harg6, ← st_k1_t1_succ] at h
    exact h

theorem ends_all : MEnds x1 (k1_pay1 x0) 100 (st_k1_t1 (F := Ideal) Variants.none c none i arg1 harg1 arg2 harg2 arg3 harg3 arg4 harg4 arg5 harg5 arg6 harg6
    (harg2.unread x1) (k1_pay1 x0, k1_pay3 (F := Ideal), k1_pay3 (F := Ideal), k1_pay3 (F := Ideal), k1_pay3 (F := Ideal), k1_pay3 (F := Ideal), k1_pay3 (F := Ideal))
    (Scf.trips 0#32 (Scalar.addi 0#32 100#32) 1#32)) :=
  st_ends c i arg1 harg1 arg2 harg2 arg3 harg3 arg4 harg4 arg5 harg5 arg6 harg6 x1 (k1_pay1 x0) 100 (by decide)

theorem out2_eq (l : Fin 128) :
    out1_A_2 c i arg1 harg1 arg2 harg2 arg3 harg3 arg4 harg4 arg5 harg5 arg6 harg6 x0 x1 (ix3 0 0 l)
      = mlane (k1_pay1 x0) (fun t => k1_pay16 (mleft (k1_pay1 x0) t)) 100 l := by
  have h := ends_all c i arg1 harg1 arg2 harg2 arg3 harg3 arg4 harg4 arg5 harg5 arg6 harg6 x0 x1
  frame_out
  revert h
  generalize st_k1_t1 (F := Ideal) _ _ _ _ _ _ _ _ _ _ _ _ _ _ _ _ _ _ _ = Z
  intro h
  refine Eq.trans ?_ (h.score l)
  pointwise [k1_pay12]

theorem out3_eq' (l : Fin 128) :
    out1_A_3 c i arg1 harg1 arg2 harg2 arg3 harg3 arg4 harg4 arg5 harg5 arg6 harg6 x0 x1 (ix3 0 0 l)
      = mlane (k1_pay1 x0) (mread (k1_pay1 x0) (k1_pay2 (F := Ideal))) 100 l := by
  have h := ends_all c i arg1 harg1 arg2 harg2 arg3 harg3 arg4 harg4 arg5 harg5 arg6 harg6 x0 x1
  frame_out
  revert h
  generalize st_k1_t1 (F := Ideal) _ _ _ _ _ _ _ _ _ _ _ _ _ _ _ _ _ _ _ = Z
  intro h
  refine Eq.trans ?_ (h.cls l)
  pointwise [k1_pay13]

theorem out4_eq' (d : Fin 4) (l : Fin 128) :
    out1_A_4 c i arg1 harg1 arg2 harg2 arg3 harg3 arg4 harg4 arg5 harg5 arg6 harg6 x0 x1 (ix3 0 d l)
      = mlane (k1_pay1 x0) (mread (k1_pay1 x0) (plane x1 d)) 100 l := by
  have h := ends_all c i arg1 harg1 arg2 harg2 arg3 harg3 arg4 harg4 arg5 harg5 arg6 harg6 x0 x1
  frame_out
  revert h
  generalize st_k1_t1 (F := Ideal) _ _ _ _ _ _ _ _ _ _ _ _ _ _ _ _ _ _ _ = Z
  intro h
  fin_cases d
  · refine Eq.trans ?_ (h.box0 l); pointwise [k1_pay14]
  · refine Eq.trans ?_ (h.box1 l); pointwise [k1_pay14]
  · refine Eq.trans ?_ (h.box2 l); pointwise [k1_pay14]
  · refine Eq.trans ?_ (h.box3 l); pointwise [k1_pay14]

theorem out5_eq :
    out1_A_5 c i arg1 harg1 arg2 harg2 arg3 harg3 arg4 harg4 arg5 harg5 arg6 harg6 x0 x1 (ix3 0 0 0)
      = Scalar.minsi (BitVec.ofNat 32 (Finset.univ.filter fun q : Q => 0 < mg (k1_pay1 x0) q).card) 100#32 := by
  frame_out
  rw [← fold_count (fun q : Q => 0 < mg (k1_pay1 x0) q) Finset.univ]
  pointwise [k1_pay15]

end body

end Cert.KernelIdeal.Nms

end
-- ==== Proof.Nms.Value.KOut0.lean ====
/- What the first region's body leaves in its two output blocks, read at an index over the extended reals. -/
module

public import proofs.«01_k».proof.Proof.Nms.KernelIdeal.Frame
public import proofs.«01_k».proof.Proof.Nms.Value.KRead
public import Idealize.ShloMosaic.Lib.Pipeline.ValueKit

@[expose] public section

set_option maxRecDepth 65536

noncomputable section

namespace Cert.KernelIdeal.Nms

open Cert.KernelIdeal.Gen
open Idealize.ShloMosaic

/-- One class's image of a block of class scores. -/
theorem row_inb (j : Fin 16) : ∀ a : Fin S1x16x126x128.rank, (![0, j.val, 0, 0] : Fin 4 → ℕ) a + S1x1x126x128.size a ≤ S1x16x126x128.size a := by
  intro a
  have := j.2
  fin_cases a <;> simp [Shape.size] <;> omega

theorem box_inb (d : Fin 4) : ∀ a : Fin S1x4x126x128.rank, (![0, d.val, 0, 0] : Fin 4 → ℕ) a + S1x1x126x128.size a ≤ S1x4x126x128.size a := by
  intro a
  have := d.2
  fin_cases a <;> simp [Shape.size] <;> omega

/-- The product of one class's image with the confidences. -/
def prodImg (x0 : Vec Ideal S1x16x126x128 .f32) (x1 : Vec Ideal S1x126x128 .f32) (j : Fin 16) : FVec Ideal S126x128 .f32 :=
  mulf (shapeCast S126x128 (View.ld x0 (Rect.unit ![0, j.val, 0, 0] S1x1x126x128.size (row_inb j))) shapeCasts_S1x1x126x128_S126x128)
    (shapeCast S126x128 x1 shapeCasts_S1x126x128_S126x128)

/-- One class's thresholded image. -/
def img (x0 : Vec Ideal S1x16x126x128 .f32) (x1 : Vec Ideal S1x126x128 .f32) (j : Fin 16) : FVec Ideal S126x128 .f32 :=
  select (cmpf .ogt (prodImg x0 x1 j) (broadcast S126x128 (Scalar.ofBits (F := Ideal) .f32 0x3E800000#32))) (prodImg x0 x1 j)
    (broadcast S126x128 (Scalar.ofBits (F := Ideal) .f32 0xBF800000#32))

/-- One coordinate's image of the boxes. -/
def boxImg (x2 : Vec Ideal S1x4x126x128 .f32) (d : Fin 4) : FVec Ideal S126x128 .f32 :=
  shapeCast S126x128 (View.ld x2 (Rect.unit ![0, d.val, 0, 0] S1x1x126x128.size (box_inb d))) shapeCasts_S1x1x126x128_S126x128

/-- The scores of a class that reach its threshold. -/
def kept (x0 : Vec Ideal S1x16x126x128 .f32) (x1 : Vec Ideal S1x126x128 .f32) (j : Fin 16) : FVec Ideal S126x128 .f32 :=
  cut (img x0 x1 j) (bisEnd (F := Ideal) (img x0 x1 j) _root_.Nms.thr (Ideal.ofBits .f32 1069547520#32)).1

/-- One class's end state. -/
def classAt (x0 : Vec Ideal S1x16x126x128 .f32) (x1 : Vec Ideal S1x126x128 .f32) (x2 : Vec Ideal S1x4x126x128 .f32) (j : Fin 16) : ClassSt Ideal :=
  classEnd (F := Ideal) (boxImg x2 0) (boxImg x2 1) (boxImg x2 2) (boxImg x2 3) lanes (kept x0 x1 j)

/-- A class's selected coordinate `d`, lane by lane. -/
def boxRow (x : ClassSt Ideal) (d : Fin 4) : FVec Ideal S1x128 .f32 :=
  match d with
  | 0 => x.2.2.1
  | 1 => x.2.2.2.1
  | 2 => x.2.2.2.2.1
  | 3 => x.2.2.2.2.2

theorem stack16 (r : Fin 16 → FVec Ideal S1x128 .f32) (j : Fin 16) (l : Fin 128) :
    k0_pay327 (r 0) (r 1) (r 2) (r 3) (r 4) (r 5) (r 6) (r 7) (r 8) (r 9) (r 10) (r 11) (r 12) (r 13) (r 14) (r 15) (ix4 0 0 j l) = r j (ix2 0 l) := by
  have e : k0_pay327 (r 0) (r 1) (r 2) (r 3) (r 4) (r 5) (r 6) (r 7) (r 8) (r 9) (r 10) (r 11) (r 12) (r 13) (r 14) (r 15) =
    shapeCast S1x1x16x128 (concatenate S16x128 0 (List.ofFn fun n : Fin 16 => (⟨S1x128, r n⟩ : (s : Shape) × (s.Idx → EReal)))
      concatenates_S1x128_S1x128_S1x128_S1x128_S1x128_S1x128_S1x128_S1x128_S1x128_S1x128_S1x128_S1x128_S1x128_S1x128_S1x128_S1x128_S16x128_d0) shapeCasts_S16x128_S1x1x16x128 := rfl
  rw [e]
  refine Eq.trans (b := concatenate S16x128 0 (List.ofFn fun n : Fin 16 => (⟨S1x128, r n⟩ : (s : Shape) × (s.Idx → EReal)))
      concatenates_S1x128_S1x128_S1x128_S1x128_S1x128_S1x128_S1x128_S1x128_S1x128_S1x128_S1x128_S1x128_S1x128_S1x128_S1x128_S1x128_S16x128_d0 (ix2 j l)) ?_ ?_
  · generalize concatenate S16x128 0 (List.ofFn fun n : Fin 16 => (⟨S1x128, r n⟩ : (s : Shape) × (s.Idx → EReal))) _ = f
    pointwise []
  · refine concatenate_ofFn_unit_apply (t := S16x128) (s₁ := S1x128) 0 r _ rfl rfl (ix2 j l) j rfl _ fun b hb => ?_
    fin_cases b
    · exact absurd rfl hb
    · rfl

theorem stack4 (r : Fin 4 → FVec Ideal S1x128 .f32) (d : Fin 4) (l : Fin 128) :
    concatenate S4x128 0 [⟨S1x128, r 0⟩, ⟨S1x128, r 1⟩, ⟨S1x128, r 2⟩, ⟨S1x128, r 3⟩] concatenates_S1x128_S1x128_S1x128_S1x128_S4x128_d0 (ix2 d l) = r d (ix2 0 l) := by
  refine concatenate_ofFn_unit_apply (t := S4x128) (s₁ := S1x128) 0 r _ rfl rfl (ix2 d l) d rfl _ fun b hb => ?_
  fin_cases b
  · exact absurd rfl hb
  · rfl

theorem stack64 (r : Fin 16 → FVec Ideal S4x128 .f32) (j : Fin 16) (d : Fin 4) (h : 4 * j.val + d.val < 64) (l : Fin 128) :
    k0_pay1 (r 0) (r 1) (r 2) (r 3) (r 4) (r 5) (r 6) (r 7) (r 8) (r 9) (r 10) (r 11) (r 12) (r 13) (r 14) (r 15) (ix4 0 0 ⟨4 * j.val + d.val, h⟩ l) = r j (ix2 d l) := by
  have hL : Shape.Concatenates ((List.ofFn fun n : Fin 16 => (⟨S4x128, r n⟩ : (s : Shape) × (s.Idx → EReal))).map (·.1)) S64x128 0 :=
    (by decide : Shape.Concatenates [S4x128, S4x128, S4x128, S4x128, S4x128, S4x128, S4x128, S4x128, S4x128, S4x128, S4x128, S4x128, S4x128, S4x128, S4x128, S4x128] S64x128 0)
  have e : k0_pay1 (r 0) (r 1) (r 2) (r 3) (r 4) (r 5) (r 6) (r 7) (r 8) (r 9) (r 10) (r 11) (r 12) (r 13) (r 14) (r 15) =
    shapeCast S1x1x64x128 (concatenate S64x128 0 (List.ofFn fun n : Fin 16 => (⟨S4x128, r n⟩ : (s : Shape) × (s.Idx → EReal))) hL) shapeCasts_S64x128_S1x1x64x128 := rfl
  rw [e]
  refine Eq.trans (b := concatenate S64x128 0 (List.ofFn fun n : Fin 16 => (⟨S4x128, r n⟩ : (s : Shape) × (s.Idx → EReal))) hL (ix2 ⟨4 * j.val + d.val, h⟩ l)) ?_ ?_
  · generalize concatenate S64x128 0 (List.ofFn fun n : Fin 16 => (⟨S4x128, r n⟩ : (s : Shape) × (s.Idx → EReal))) hL = f
    pointwise []
  · have hd := d.2
    refine concatenate_ofFn_apply (t := S64x128) (s₁ := S4x128) 0 r hL rfl 4 rfl (ix2 ⟨4 * j.val + d.val, h⟩ l) j ?_ (ix2 d l) ?_ fun b hb => ?_
    · show (4 * j.val + d.val) / 4 = j.val
      omega
    · show d.val = (4 * j.val + d.val) % 4
      omega
    · fin_cases b
      · exact absurd rfl hb
      · rfl

end Cert.KernelIdeal.Nms

end
-- ==== Proof.Nms.Value.TopK.lean ====
/- The greatest entries along the last axis, as the sorting permutation of each row reads them. -/
module

public import Idealize.ShloMosaic.Lib.SortFacts
public import Idealize.ShloMosaic.Lib.Pointwise

@[expose] public section

noncomputable section

namespace Nms

open Idealize.ShloMosaic

/-- The comparison the greatest entries are taken by. -/
abbrev gt (a b : Ideal .f32) : BitVec 1 := FloatOps.cmpfTotal .gt a b

/-- The position the `k`-th greatest entry comes from. -/
def srt {n : ℕ} (x : Fin n → Ideal .f32) : Fin n → Fin n := sortedFrom fun k k' => gt (x k) (x k') == 1#1

theorem gt_iff (a b : Ideal .f32) : (gt a b == 1#1) = decide (b < a) := by
  have : gt a b = BitVec.ofBool (decide (b < a)) := by
    rw [gt, Ideal.cmpfTotal_def]; rfl
  rw [this]; cases decide (b < a) <;> rfl

theorem srt_injective {n : ℕ} (x : Fin n → Ideal .f32) : Function.Injective (srt x) := sortedFrom_injective _

theorem srt_surjective {n : ℕ} (x : Fin n → Ideal .f32) : Function.Surjective (srt x) := sortedFrom_surjective _

theorem srt_anti {n : ℕ} (x : Fin n → Ideal .f32) (i j : Fin n) (h : i ≤ j) : x (srt x j) ≤ x (srt x i) := by
  rcases h.eq_or_lt with rfl | h
  · exact le_rfl
  · have := sortedFrom_noInversion (fun k k' => gt (x k) (x k') == 1#1) (fun k k' => gt (x k) (x k') == 1#1)
      (fun a b => by simp only [gt_iff, decide_eq_true_eq, decide_eq_false_iff_not]; exact fun h => lt_asymm h)
      (fun a b h => h)
      (fun a b c => by
        simp only [gt_iff, decide_eq_false_iff_not, not_lt]; exact fun h1 h2 => h1.trans h2) i j h
    rw [gt_iff, decide_eq_false_iff_not, not_lt] at this
    exact this

theorem topK3 {A B N K : ℕ} (hK : K ≤ N) (x : Vec Ideal ⟨3, ![A, B, N]⟩ .f32)
    (h : (⟨3, ![A, B, N]⟩ : Shape).Slices (fun _ => 0) ⟨3, ![A, B, K]⟩) (a : Fin A) (b : Fin B) (k : Fin K) :
    (Host.topK ⟨3, ![A, B, K]⟩ 2 gt x h).1 (ix3 a b k)
        = x (ix3 a b (srt (fun n => x (ix3 a b n)) (k.castLE hK))) ∧
      (Host.topK ⟨3, ![A, B, K]⟩ 2 gt x h).2 (ix3 a b k)
        = BitVec.ofNat 32 (srt (fun n => x (ix3 a b n)) (k.castLE hK)).val := by
  have hr : 2 < (⟨3, ![A, B, N]⟩ : Shape).rank := Nat.lt_succ_self 2
  have al : ∀ (j : (⟨3, ![A, B, N]⟩ : Shape).Idx) (n : Fin N), j.along (⟨2, hr⟩ : Fin 3) n = ix3 (j 0) (j 1) n := fun j n => by
    rw [eq_ix3 (j.along (⟨2, hr⟩ : Fin 3) n)]; rfl
  have src : (fun a' : Fin 3 => (⟨0 + ((ix3 a b k : (⟨3, ![A, B, K]⟩ : Shape).Idx) (a'.cast h.1.symm)).val,
      Nat.lt_of_lt_of_le (Nat.add_lt_add_left ((ix3 a b k : (⟨3, ![A, B, K]⟩ : Shape).Idx) _).isLt _) (h.2 a')⟩ :
        Fin ((⟨3, ![A, B, N]⟩ : Shape).size a'))) = (ix3 a b (k.castLE hK) : (⟨3, ![A, B, N]⟩ : Shape).Idx) := by
    funext a'
    fin_cases a' <;> exact Fin.ext (Nat.zero_add _)
  have s1 : ∀ j, (Host.sort2 ⟨3, ![A, B, N]⟩ 2 (fun l r => gt l.1 r.1) x
      (fun i => if hd : 2 < (⟨3, ![A, B, N]⟩ : Shape).rank then iotaInDim ⟨3, ![A, B, N]⟩ 32 ⟨2, hd⟩ i else 0#32)).1 j
        = x (ix3 (j 0) (j 1) (srt (fun n => x (ix3 (j 0) (j 1) n)) (j 2))) := fun j => by
    unfold Host.sort2
    rw [dif_pos hr]
    refine (congrArg x (al j _)).trans ?_
    exact congrArg (fun f : Fin N → Fin N → Bool => x (ix3 (j 0) (j 1) (sortedFrom f (j 2)))) (funext fun k =>
      funext fun k' => congrArg₂ (fun u v => gt (x u) (x v) == 1#1) (al j k) (al j k'))
  have s2 : ∀ j, (Host.sort2 ⟨3, ![A, B, N]⟩ 2 (fun l r => gt l.1 r.1) x
      (fun i => if hd : 2 < (⟨3, ![A, B, N]⟩ : Shape).rank then iotaInDim ⟨3, ![A, B, N]⟩ 32 ⟨2, hd⟩ i else 0#32)).2 j
        = BitVec.ofNat 32 (srt (fun n => x (ix3 (j 0) (j 1) n)) (j 2)).val := fun j => by
    unfold Host.sort2
    rw [dif_pos hr]
    simp only [dif_pos hr]
    refine (congrArg (iotaInDim _ 32 ⟨2, hr⟩) (al j _)).trans ?_
    exact congrArg (fun f : Fin N → Fin N → Bool => BitVec.ofNat 32 (sortedFrom f (j 2)).val) (funext fun k =>
      funext fun k' => congrArg₂ (fun u v => gt (x u) (x v) == 1#1) (al j k) (al j k'))
  unfold Host.topK extractStridedSlice
  exact ⟨(congrArg _ src).trans (s1 _), (congrArg _ src).trans (s2 _)⟩

theorem topK2 {A N K : ℕ} (hK : K ≤ N) (x : Vec Ideal ⟨2, ![A, N]⟩ .f32)
    (h : (⟨2, ![A, N]⟩ : Shape).Slices (fun _ => 0) ⟨2, ![A, K]⟩) (a : Fin A) (k : Fin K) :
    (Host.topK ⟨2, ![A, K]⟩ 1 gt x h).1 (ix2 a k) = x (ix2 a (srt (fun n => x (ix2 a n)) (k.castLE hK))) ∧
      (Host.topK ⟨2, ![A, K]⟩ 1 gt x h).2 (ix2 a k)
        = BitVec.ofNat 32 (srt (fun n => x (ix2 a n)) (k.castLE hK)).val := by
  have hr : 1 < (⟨2, ![A, N]⟩ : Shape).rank := Nat.lt_succ_self 1
  have al : ∀ (j : (⟨2, ![A, N]⟩ : Shape).Idx) (n : Fin N), j.along (⟨1, hr⟩ : Fin 2) n = ix2 (j 0) n := fun j n => by
    rw [eq_ix2 (j.along (⟨1, hr⟩ : Fin 2) n)]; rfl
  have src : (fun a' : Fin 2 => (⟨0 + ((ix2 a k : (⟨2, ![A, K]⟩ : Shape).Idx) (a'.cast h.1.symm)).val,
      Nat.lt_of_lt_of_le (Nat.add_lt_add_left ((ix2 a k : (⟨2, ![A, K]⟩ : Shape).Idx) _).isLt _) (h.2 a')⟩ :
        Fin ((⟨2, ![A, N]⟩ : Shape).size a'))) = (ix2 a (k.castLE hK) : (⟨2, ![A, N]⟩ : Shape).Idx) := by
    funext a'
    fin_cases a' <;> exact Fin.ext (Nat.zero_add _)
  have s1 : ∀ j, (Host.sort2 ⟨2, ![A, N]⟩ 1 (fun l r => gt l.1 r.1) x
      (fun i => if hd : 1 < (⟨2, ![A, N]⟩ : Shape).rank then iotaInDim ⟨2, ![A, N]⟩ 32 ⟨1, hd⟩ i else 0#32)).1 j
        = x (ix2 (j 0) (srt (fun n => x (ix2 (j 0) n)) (j 1))) := fun j => by
    unfold Host.sort2
    rw [dif_pos hr]
    refine (congrArg x (al j _)).trans ?_
    exact congrArg (fun f : Fin N → Fin N → Bool => x (ix2 (j 0) (sortedFrom f (j 1)))) (funext fun k =>
      funext fun k' => congrArg₂ (fun u v => gt (x u) (x v) == 1#1) (al j k) (al j k'))
  have s2 : ∀ j, (Host.sort2 ⟨2, ![A, N]⟩ 1 (fun l r => gt l.1 r.1) x
      (fun i => if hd : 1 < (⟨2, ![A, N]⟩ : Shape).rank then iotaInDim ⟨2, ![A, N]⟩ 32 ⟨1, hd⟩ i else 0#32)).2 j
        = BitVec.ofNat 32 (srt (fun n => x (ix2 (j 0) n)) (j 1)).val := fun j => by
    unfold Host.sort2
    rw [dif_pos hr]
    simp only [dif_pos hr]
    refine (congrArg (iotaInDim _ 32 ⟨1, hr⟩) (al j _)).trans ?_
    exact congrArg (fun f : Fin N → Fin N → Bool => BitVec.ofNat 32 (sortedFrom f (j 1)).val) (funext fun k =>
      funext fun k' => congrArg₂ (fun u v => gt (x u) (x v) == 1#1) (al j k) (al j k'))
  unfold Host.topK extractStridedSlice
  exact ⟨(congrArg _ src).trans (s1 _), (congrArg _ src).trans (s2 _)⟩

end Nms

end
-- ==== Proof.Nms.Value.RGather.lean ====
/- The reference's gathers, read at an index: the start index clamped into the axis. -/
module

public import proofs.«01_k».proof.Proof.Gen.ReferenceIdeal.Run
public import Idealize.ShloMosaic.Lib.Pointwise

@[expose] public section

set_option maxRecDepth 16384

noncomputable section

namespace Cert.ReferenceIdeal.Nms

open Idealize.ShloMosaic

variable {α : Type}

/-- A word as a row of an axis of `n` rows. -/
def clampRow (n : ℕ) (h : 0 < n) (w : BitVec 32) : Fin n := ⟨min w.toInt.toNat (n - 1), by omega⟩

theorem clampRow_ofNat {n : ℕ} (h : 0 < n) (hn : n ≤ 2 ^ 31) (k : Fin n) : clampRow n h (BitVec.ofNat 32 k.val) = k := by
  have hk := k.2
  refine Fin.ext ?_
  have : (BitVec.ofNat 32 k.val).toInt = (k.val : ℤ) := by
    rw [BitVec.toInt_eq_toNat_of_lt, BitVec.toNat_ofNat, Nat.mod_eq_of_lt (by omega)]
    rw [BitVec.toNat_ofNat, Nat.mod_eq_of_lt (by omega)]; omega
  show min (BitVec.ofNat 32 k.val).toInt.toNat (n - 1) = k.val
  rw [this, Int.toNat_natCast]; omega

theorem gather_boxes (x : S8x16128x4.Idx → α) (idx : IVec S8x80x200x1 32) (b : Fin 8) (c : Fin 80) (k : Fin 200) (d : Fin 4) :
    Host.gather gather_S8x16128x4_S8x80x200x1_S8x80x200x4_3_1_0_0_1_3_114 x idx (ix4 b c k d)
      = x (ix3 b (clampRow 16128 (by decide) (idx (ix4 b c k 0))) d) := by
  unfold Host.gather
  refine congrArg x (funext fun a => Fin.ext ?_)
  have hsi : ∀ i, gather_S8x16128x4_S8x80x200x1_S8x80x200x4_3_1_0_0_1_3_114.siIdx (ix4 b c k d) i = ix4 b c k 0 := fun i => by
    obtain ⟨i, hi⟩ := i
    have : i = 0 := Nat.lt_one_iff.mp hi
    subst this
    funext a
    fin_cases a <;> rfl
  fin_cases a
  · exact Nat.zero_add b.val
  · exact congrArg (fun q => min (idx q).toInt.toNat _) (hsi _)
  · exact Nat.zero_add d.val

theorem gather_sel (x : S8x80x200x4.Idx → α) (idx : IVec S8x80x1x1 32) (b : Fin 8) (c : Fin 80) (d : Fin 4) :
    Host.gather gather_S8x80x200x4_S8x80x1x1_S8x80x1x4_3_2_01_01_2_3_1114 x idx (ix4 b c 0 d)
      = x (ix4 b c (clampRow 200 (by decide) (idx (ix4 b c 0 0))) d) := by
  unfold Host.gather
  refine congrArg x (funext fun a => Fin.ext ?_)
  have hsi : ∀ i, gather_S8x80x200x4_S8x80x1x1_S8x80x1x4_3_2_01_01_2_3_1114.siIdx (ix4 b c 0 d) i = ix4 b c 0 0 := fun i => by
    obtain ⟨i, hi⟩ := i
    have : i = 0 := Nat.lt_one_iff.mp hi
    subst this
    funext a
    fin_cases a <;> rfl
  fin_cases a
  · exact Nat.zero_add b.val
  · exact Nat.zero_add c.val
  · exact congrArg (fun q => min (idx q).toInt.toNat _) (hsi _)
  · exact Nat.zero_add d.val

theorem gather_flat (x : S8x8000x4.Idx → α) (idx : IVec S8x100x1 32) (b : Fin 8) (k : Fin 100) (d : Fin 4) :
    Host.gather gather_S8x8000x4_S8x100x1_S8x100x4_2_1_0_0_1_2_114 x idx (ix3 b k d)
      = x (ix3 b (clampRow 8000 (by decide) (idx (ix3 b k 0))) d) := by
  unfold Host.gather
  refine congrArg x (funext fun a => Fin.ext ?_)
  have hsi : ∀ i, gather_S8x8000x4_S8x100x1_S8x100x4_2_1_0_0_1_2_114.siIdx (ix3 b k d) i = ix3 b k 0 := fun i => by
    obtain ⟨i, hi⟩ := i
    have : i = 0 := Nat.lt_one_iff.mp hi
    subst this
    funext a
    fin_cases a <;> rfl
  fin_cases a
  · exact Nat.zero_add b.val
  · exact congrArg (fun q => min (idx q).toInt.toNat _) (hsi _)
  · exact Nat.zero_add d.val

theorem gather_class (x : S8x8000.Idx → α) (idx : IVec S8x100x1 32) (b : Fin 8) (k : Fin 100) :
    Host.gather gather_S8x8000_S8x100x1_S8x100_n_1_0_0_1_2_11 x idx (ix2 b k)
      = x (ix2 b (clampRow 8000 (by decide) (idx (ix3 b k 0)))) := by
  unfold Host.gather
  refine congrArg x (funext fun a => Fin.ext ?_)
  have hsi : ∀ i, gather_S8x8000_S8x100x1_S8x100_n_1_0_0_1_2_11.siIdx (ix2 b k) i = ix3 b k 0 := fun i => by
    obtain ⟨i, hi⟩ := i
    have : i = 0 := Nat.lt_one_iff.mp hi
    subst this
    funext a
    fin_cases a <;> rfl
  fin_cases a
  · exact Nat.zero_add b.val
  · exact congrArg (fun q => min (idx q).toInt.toNat _) (hsi _)

end Cert.ReferenceIdeal.Nms

end
-- ==== Proof.Nms.Value.RStep.lean ====
/- One trip of the reference's loop, read at an index over the extended reals. -/
module

public import proofs.«01_k».proof.Proof.Gen.ReferenceIdeal.Run
public import proofs.«01_k».proof.Proof.Nms.Value.TopK
public import proofs.«01_k».proof.Proof.Nms.Value.Math
public import proofs.«01_k».proof.Proof.Nms.Value.RGather
public import Idealize.ShloMosaic.Lib.Pointwise
public import Idealize.ShloMosaic.Lib.Tactic.CleanTypes

@[expose] public section

set_option maxRecDepth 16384

noncomputable section

namespace Cert.ReferenceIdeal.Nms

open Cert.ReferenceIdeal.Value
open Idealize.ShloMosaic

abbrev Val := Valuation τ sig (Elt Ideal)

abbrev vS (V : Val) : Vec Ideal S8x80x200 .f32 := V (Proc.devRef .tc main_v24_5)
abbrev vC (V : Val) : Vec Ideal S8x80x200x4 .f32 := V (Proc.devRef .tc main_v24_1)
abbrev vI (V : Val) : Vec Ideal S200 .i32 := V (Proc.devRef .tc main_v24_0)

abbrev vO (V : Val) : Vec Ideal S8x80x100 .f32 := V (Proc.devRef .tc main_v24_6)
abbrev vB (V : Val) : Vec Ideal S8x80x100x4 .f32 := V (Proc.devRef .tc main_v24_7)
abbrev vJ (V : Val) : Vec Ideal S100 .i32 := V (Proc.devRef .tc main_v24_2)
abbrev vT (V : Val) : Vec Ideal S_ .i32 := V (Proc.devRef .tc main_v24_4)

/-- The greatest score of class `c` in image `b`, the word of the first candidate of that score, and its row. -/
abbrev rM (V : Val) : Vec Ideal S8x80 .f32 := res_main_while0b_v42 V
abbrev rW (V : Val) : Vec Ideal S8x80 .i32 := res_main_while0b_v47 V
abbrev rB (V : Val) : Vec Ideal S8x80x1x4 .f32 := res_main_while0b_v51 V
abbrev rI (V : Val) : Vec Ideal S8x80x200 .f32 := res_main_while0b_v95 V

theorem red : S8x80x200.Reduces [2] S8x80 := by decide

theorem lift_last (b : Fin 8) (c : Fin 80) (k : Fin 200) : red.lift (ix2 b c) k = ix3 b c k := by
  funext a
  fin_cases a <;> rfl

theorem max_read (V : Val) (b : Fin 8) (c : Fin 80) : _root_.Nms.IsMax (fun k => vS V (ix3 b c k)) (rM V (ix2 b c)) := by
  have h : rM V (ix2 b c) = Finset.fold max ⊥ (fun k => vS V (ix3 b c k)) Finset.univ := by
    refine (Host.reduce_eq_fold_single (max : EReal → EReal → EReal) (vS V : S8x80x200.Idx → EReal)
      (constant (F := Ideal) S_ .f32 0xFF800000#32) _ red _ (ix2 b c)).trans ?_
    rw [show (constant (F := Ideal) S_ .f32 0xFF800000#32) (Shape.Idx.first (by decide)) = (⊥ : EReal) from _root_.Nms.bot_eq]
    exact congrArg (fun f => Finset.fold max (⊥ : EReal) f Finset.univ) (funext fun k => congrArg (vS V) (lift_last b c k))
  rw [h]
  exact _root_.Nms.fold_max_isMax _

theorem minsi_toInt (x y : BitVec 32) : (IntOp.minsi x y).toInt ≤ x.toInt ∧ (IntOp.minsi x y).toInt ≤ y.toInt ∧
    (IntOp.minsi x y = x ∨ IntOp.minsi x y = y) := by
  unfold IntOp.minsi
  split_ifs with h
  all_goals simp only [BitVec.slt, BitVec.sle, decide_eq_true_eq] at h
  all_goals refine ⟨by omega, by omega, by simp⟩

/-- The least of some words is one of them or the first, and none is below it. -/
theorem fold_minsi {K : Type} [DecidableEq K] (w : BitVec 32) (f : K → BitVec 32) (t : Finset K) :
    (t.fold IntOp.minsi w f = w ∨ ∃ k ∈ t, t.fold IntOp.minsi w f = f k) ∧
      ∀ k ∈ t, (t.fold IntOp.minsi w f).toInt ≤ (f k).toInt := by
  induction t using Finset.induction_on with
  | empty => simp
  | insert a t ha ih =>
    rw [Finset.fold_insert ha]
    obtain ⟨h1, h2, h3⟩ := minsi_toInt (f a) (t.fold IntOp.minsi w f)
    refine ⟨?_, fun k hk => ?_⟩
    · rcases h3 with h | h
      · exact .inr ⟨a, Finset.mem_insert_self _ _, h⟩
      · rw [h]
        rcases ih.1 with h' | ⟨k, hk, h'⟩
        · exact .inl h'
        · exact .inr ⟨k, Finset.mem_insert_of_mem hk, h'⟩
    · rcases Finset.mem_insert.mp hk with rfl | hk
      · exact h1
      · exact h2.trans (ih.2 k hk)

theorem ofNat_toInt (k : Fin 200) : (BitVec.ofNat 32 k.val).toInt = (k.val : ℤ) := by
  have hk := k.2
  rw [BitVec.toInt_eq_toNat_of_lt, BitVec.toNat_ofNat, Nat.mod_eq_of_lt (by omega)]
  rw [BitVec.toNat_ofNat, Nat.mod_eq_of_lt (by omega)]; omega

/-- The least of the places where `s` attains `m`, `199` standing for the others, is such a place. -/
theorem least_place (s : Fin 200 → EReal) (m : EReal) (h : ∃ k, s k = m) (f : Fin 200 → BitVec 32)
    (h1 : ∀ k, s k = m → f k = BitVec.ofNat 32 k.val) (h2 : ∀ k, s k ≠ m → f k = 199#32) :
    ∃ k : Fin 200, Finset.univ.fold IntOp.minsi 2147483647#32 f = BitVec.ofNat 32 k.val ∧ s k = m := by
  obtain ⟨k0, hk0⟩ := h
  obtain ⟨ha, hb⟩ := fold_minsi 2147483647#32 f Finset.univ
  have hle := hb k0 (Finset.mem_univ _)
  rw [h1 k0 hk0, ofNat_toInt] at hle
  have hlt := k0.2
  rcases ha with ha | ⟨k, -, ha⟩
  · rw [ha] at hle
    have : (2147483647#32).toInt = 2147483647 := by decide
    omega
  · by_cases hs : s k = m
    · exact ⟨k, ha.trans (h1 k hs), hs⟩
    · rw [ha, h2 k hs] at hle
      have : (199#32).toInt = 199 := by decide
      have e : k0.val = 199 := by omega
      exact ⟨k0, by rw [ha, h2 k hs, e], hk0⟩

/-- The rows are numbered in the order of the candidates. -/
def Num (V : Val) : Prop := ∀ k : Fin 200, vI V (ix1 k) = BitVec.ofNat 32 k.val

theorem word_read (V : Val) (hI : Num V) (b : Fin 8) (c : Fin 80) :
    ∃ k : Fin 200, rW V (ix2 b c) = BitVec.ofNat 32 k.val ∧ vS V (ix3 b c k) = rM V (ix2 b c) := by
  obtain ⟨f, hf, h1, h2⟩ : ∃ f : Fin 200 → BitVec 32, rW V (ix2 b c) = Finset.univ.fold IntOp.minsi 2147483647#32 f ∧
      (∀ k, vS V (ix3 b c k) = rM V (ix2 b c) → f k = BitVec.ofNat 32 k.val) ∧
      (∀ k, vS V (ix3 b c k) ≠ rM V (ix2 b c) → f k = 199#32) := by
    refine ⟨_, Host.reduce_eq_fold_single IntOp.minsi _ _ _ red _ _, ?_, ?_⟩
    all_goals
      intro k hk
      simp only [Function.comp]
      rw [lift_last b c k]
      simp only [id]
      refine Eq.trans (b := Scalar.select (BitVec.ofBool (decide (vS V (ix3 b c k) = rM V (ix2 b c)))) (vI V (ix1 k)) 199#32) ?_ ?_
      · pointwise []
      · first | rw [decide_eq_true hk] | rw [decide_eq_false hk]
        first | exact hI k | rfl
  rw [hf]
  exact least_place _ _ (max_read V b c).2 f h1 h2

/-- The row of the selected candidate. -/
def row (V : Val) (b : Fin 8) (c : Fin 80) : Fin 200 := clampRow 200 (by decide) (rW V (ix2 b c))

theorem word_row (V : Val) (hI : Num V) (b : Fin 8) (c : Fin 80) : rW V (ix2 b c) = BitVec.ofNat 32 (row V b c).val := by
  obtain ⟨k, h, -⟩ := word_read V hI b c
  rw [row, h, clampRow_ofNat _ (by decide)]

theorem sel_read (V : Val) (hI : Num V) (b : Fin 8) (c : Fin 80) : vS V (ix3 b c (row V b c)) = rM V (ix2 b c) := by
  obtain ⟨k, h, h'⟩ := word_read V hI b c
  rw [row, h, clampRow_ofNat _ (by decide), h']

theorem box_read (V : Val) (hI : Num V) (b : Fin 8) (c : Fin 80) (d : Fin 4) :
    rB V (ix4 b c 0 d) = vC V (ix4 b c (row V b c) d) := by
  refine (gather_sel (vC V) _ b c d).trans ?_
  refine congrArg (fun w => vC V (ix4 b c (clampRow 200 (by decide) w) d)) ?_
  refine Eq.trans (b := Scalar.select (IntOp.cmpi .slt (rW V (ix2 b c)) 0#32) (IntOp.addi (rW V (ix2 b c)) 200#32) (rW V (ix2 b c))) ?_ ?_
  · unfold res_main_while0b_v50
    pointwise []
  · have hz : IntOp.cmpi .slt (rW V (ix2 b c)) 0#32 = 0#1 := by
      rw [word_row V hI b c]
      have h := ofNat_toInt (row V b c)
      have h0 : (0#32).toInt = 0 := by decide
      have : BitVec.slt (BitVec.ofNat 32 (row V b c).val) 0#32 = false := by
        simp only [BitVec.slt, h, h0, decide_eq_false_iff_not]; omega
      simp only [IntOp.cmpi, this]; rfl
    rw [hz]; rfl

theorem inter_read (V : Val) (b : Fin 8) (c : Fin 80) (k : Fin 200) :
    rI V (ix3 b c k) = _root_.Nms.inter (fun d => rB V (ix4 b c 0 d)) (fun d => vC V (ix4 b c k d)) := by
  obtain ⟨f, e, h⟩ : ∃ f : Vec Ideal S8x80x200 .f32, res_main_while0b_v95 V = f ∧ f (ix3 b c k)
      = _root_.Nms.inter (fun d => rB V (ix4 b c 0 d)) (fun d => vC V (ix4 b c k d)) := by
    unfold res_main_while0b_v95
    refine ⟨_, rfl, ?_⟩
    pointwise [_root_.Nms.inter]
    refine congrArg₂ (· * ·) (congrArg (max · 0) (congrArg₂ (· - ·) (min_comm (α := EReal) _ _) (max_comm (α := EReal) _ _)))
      (congrArg (max · 0) (congrArg₂ (· - ·) ?_ ?_))
    · first | rfl | exact min_comm (α := EReal) _ _
    · first | rfl | exact max_comm (α := EReal) _ _
  exact (congrFun e _).trans h

theorem s_read (V : Val) (b : Fin 8) (c : Fin 80) (k : Fin 200) :
    (step_main_v24_5 V : Vec Ideal S8x80x200 .f32) (ix3 b c k) = Scalar.select (IntOp.ori (BitVec.ofBool (decide
      (_root_.Nms.half < _root_.Nms.ov (fun d => rB V (ix4 b c 0 d)) (fun d => vC V (ix4 b c k d)))))
      (IntOp.cmpi .eq (vI V (ix1 k)) (rW V (ix2 b c)))) _root_.Nms.neg1 (vS V (ix3 b c k)) := by
  have h2 := inter_read V b c k
  obtain ⟨f, e, h⟩ : ∃ f : Vec Ideal S8x80x200 .f32, step_main_v24_5 V = f ∧ f (ix3 b c k)
      = Scalar.select (IntOp.ori (BitVec.ofBool (decide
      (_root_.Nms.half < _root_.Nms.ov (fun d => rB V (ix4 b c 0 d)) (fun d => vC V (ix4 b c k d)))))
      (IntOp.cmpi .eq (vI V (ix1 k)) (rW V (ix2 b c)))) _root_.Nms.neg1 (vS V (ix3 b c k)) := by
    unfold step_main_v24_5
    simp only [id]
    refine ⟨_, rfl, ?_⟩
    rw [_root_.Nms.ov, ← h2]
    pointwise [_root_.Nms.area]
    rw [add_comm (max _ _ * max _ _)]
    rfl
  exact (congrFun e _).trans h

theorem o_read (V : Val) (b : Fin 8) (c : Fin 80) (k : Fin 100) :
    (step_main_v24_6 V : Vec Ideal S8x80x100 .f32) (ix3 b c k) = Scalar.select (IntOp.cmpi .eq (vJ V (ix1 k)) (vT V ix0))
      (if 0 < rM V (ix2 b c) then rM V (ix2 b c) else 0) (vO V (ix3 b c k)) := by
  obtain ⟨f, e, h⟩ : ∃ f : Vec Ideal S8x80x100 .f32, step_main_v24_6 V = f ∧ f (ix3 b c k)
      = Scalar.select (IntOp.cmpi .eq (vJ V (ix1 k)) (vT V ix0))
      (if 0 < rM V (ix2 b c) then rM V (ix2 b c) else 0) (vO V (ix3 b c k)) := by
    unfold step_main_v24_6 res_main_while0b_v49
    simp only [id]
    refine ⟨_, rfl, ?_⟩
    pointwise []
  exact (congrFun e _).trans h

theorem b_read (V : Val) (b : Fin 8) (c : Fin 80) (k : Fin 100) (d : Fin 4) :
    (step_main_v24_7 V : Vec Ideal S8x80x100x4 .f32) (ix4 b c k d) = Scalar.select (IntOp.cmpi .eq (vJ V (ix1 k)) (vT V ix0))
      (if 0 < rM V (ix2 b c) then rB V (ix4 b c 0 d) else 0) (vB V (ix4 b c k d)) := by
  obtain ⟨f, e, h⟩ : ∃ f : Vec Ideal S8x80x100x4 .f32, step_main_v24_7 V = f ∧ f (ix4 b c k d)
      = Scalar.select (IntOp.cmpi .eq (vJ V (ix1 k)) (vT V ix0))
      (if 0 < rM V (ix2 b c) then rB V (ix4 b c 0 d) else 0) (vB V (ix4 b c k d)) := by
    unfold step_main_v24_7 res_main_while0b_v49
    simp only [id]
    refine ⟨_, rfl, ?_⟩
    pointwise []
  exact (congrFun e _).trans h

end Cert.ReferenceIdeal.Nms

end
-- ==== Proof.Nms.Value.RRun.lean ====
/- The reference's loop as a run over the candidates of each class, and what it leaves in its slots. -/
module

public import proofs.«01_k».proof.Proof.Nms.Value.RStep

@[expose] public section

set_option maxRecDepth 16384

noncomputable section

namespace Cert.ReferenceIdeal.Nms

open Cert.ReferenceIdeal.Value
open Idealize.ShloMosaic

/-- The loop's contents before trip `t`. -/
abbrev at' (V : Val) (t : ℕ) : Val := STEP^[t] V

theorem at_succ (V : Val) (t : ℕ) : at' V (t + 1) = STEP (at' V t) := Function.iterate_succ_apply' _ _ _

theorem vC_at (V : Val) (t : ℕ) : vC (at' V t) = vC V := by
  induction t with
  | zero => rfl
  | succ t ih => rw [at_succ]; exact (STEP_main_v24_1 _).trans ih

theorem vI_at (V : Val) (t : ℕ) : vI (at' V t) = vI V := by
  induction t with
  | zero => rfl
  | succ t ih => rw [at_succ]; exact (STEP_main_v24_0 _).trans ih

theorem vJ_at (V : Val) (t : ℕ) : vJ (at' V t) = vJ V := by
  induction t with
  | zero => rfl
  | succ t ih => rw [at_succ]; exact (STEP_main_v24_2 _).trans ih

theorem vT_at (V : Val) (h : vT V ix0 = 0#32) (t : ℕ) : vT (at' V t) ix0 = BitVec.ofNat 32 t := by
  induction t with
  | zero => exact h
  | succ t ih =>
    rw [at_succ]
    refine (congrFun (STEP_main_v24_4 (at' V t)) _).trans ?_
    show vT (at' V t) ix0 + 1#32 = _
    rw [ih, BitVec.ofNat_add]

theorem num_at {V : Val} (h : Num V) (t : ℕ) : Num (at' V t) := fun k => by rw [vI_at]; exact h k

/-- The boxes of the candidates of class `c`, its scores before trip `t`, their greatest and the row selected. -/
def cand (V : Val) (b : Fin 8) (c : Fin 80) (k : Fin 200) : Fin 4 → EReal := fun d => vC V (ix4 b c k d)
def left (V : Val) (b : Fin 8) (c : Fin 80) (t : ℕ) (k : Fin 200) : EReal := vS (at' V t) (ix3 b c k)
def best (V : Val) (b : Fin 8) (c : Fin 80) (t : ℕ) : EReal := rM (at' V t) (ix2 b c)
def chosen (V : Val) (b : Fin 8) (c : Fin 80) (t : ℕ) : Fin 200 := row (at' V t) b c

theorem box_at (V : Val) (h : Num V) (b : Fin 8) (c : Fin 80) (t : ℕ) (d : Fin 4) :
    rB (at' V t) (ix4 b c 0 d) = cand V b c (chosen V b c t) d := by
  rw [box_read _ (num_at h t), vC_at]; rfl

theorem select_ofBool {α : Type} (c : Prop) [Decidable c] (x y : α) :
    Scalar.select (BitVec.ofBool (decide c)) x y = if c then x else y := by
  by_cases h : c
  · rw [decide_eq_true h, if_pos h]; rfl
  · rw [decide_eq_false h, if_neg h]; rfl

theorem ori_ofBool (c d : Prop) [Decidable c] [Decidable d] :
    IntOp.ori (BitVec.ofBool (decide c)) (BitVec.ofBool (decide d)) = BitVec.ofBool (decide (c ∨ d)) := by
  by_cases h : c <;> by_cases h' : d <;> simp [h, h', IntOp.ori]

theorem eq_ofBool (x y : BitVec 32) : IntOp.cmpi .eq x y = BitVec.ofBool (decide (x = y)) := by
  simp [IntOp.cmpi, beq_eq_decide]

theorem ofNat_inj {n : ℕ} (hn : n ≤ 2 ^ 32) {i j : ℕ} (hi : i < n) (hj : j < n) : BitVec.ofNat 32 i = BitVec.ofNat 32 j ↔ i = j := by
  refine ⟨fun h => ?_, fun h => h ▸ rfl⟩
  have := congrArg BitVec.toNat h
  rwa [BitVec.toNat_ofNat, BitVec.toNat_ofNat, Nat.mod_eq_of_lt (by omega), Nat.mod_eq_of_lt (by omega)] at this

theorem kRun (V : Val) (h : Num V) (b : Fin 8) (c : Fin 80) :
    _root_.Nms.KRun (cand V b c) _root_.Nms.Sup _root_.Nms.neg1 (left V b c) (best V b c) (chosen V b c) where
  max t := max_read (at' V t) b c
  sel t := sel_read (at' V t) (num_at h t) b c
  upd t j := by
    classical
    have e : left V b c (t + 1) j = if _root_.Nms.Sup (cand V b c (chosen V b c t)) (cand V b c j) ∨ j = chosen V b c t
        then _root_.Nms.neg1 else left V b c t j := by
      unfold left
      rw [at_succ]
      refine (congrFun (STEP_main_v24_5 (at' V t)) _).trans ((s_read _ b c j).trans ?_)
      have hb : (fun d => rB (at' V t) (ix4 b c 0 d)) = cand V b c (chosen V b c t) := funext (box_at V h b c t)
      have hw : rW (at' V t) (ix2 b c) = BitVec.ofNat 32 (chosen V b c t).val := word_row _ (num_at h t) b c
      rw [hb, vC_at, hw, num_at h t j, eq_ofBool, ori_ofBool, select_ofBool]
      refine if_congr ?_ rfl rfl
      rw [ofNat_inj (n := 200) (by decide) j.2 (chosen V b c t).2, ← Fin.ext_iff]
      rfl
    rw [e]
    exact ⟨fun hc => if_pos hc, fun hc => if_neg hc⟩

/-- The slots are numbered, the trip counter starts at 0 and the slots start at zero. -/
structure Fresh (V : Val) : Prop where
  num : Num V
  slot : ∀ j : Fin 100, vJ V (ix1 j) = BitVec.ofNat 32 j.val
  ctr : vT V ix0 = 0#32
  out : ∀ b c j, vO V (ix3 b c j) = 0
  box : ∀ b c j d, vB V (ix4 b c j d) = 0

theorem slot_eq {V : Val} (h : Fresh V) (t : ℕ) (ht : t < 100) (j : Fin 100) :
    IntOp.cmpi .eq (vJ (at' V t) (ix1 j)) (vT (at' V t) ix0) = BitVec.ofBool (decide (j.val = t)) := by
  rw [vJ_at, h.slot, vT_at V h.ctr, eq_ofBool]
  exact congrArg BitVec.ofBool (decide_eq_decide.mpr (ofNat_inj (n := 100) (by decide) j.2 ht))

theorem out_at {V : Val} (h : Fresh V) (b : Fin 8) (c : Fin 80) (j : Fin 100) (t : ℕ) (ht : t ≤ 100) :
    vO (at' V t) (ix3 b c j) = if j.val < t then (if 0 < best V b c j.val then best V b c j.val else 0) else 0 := by
  induction t with
  | zero => exact h.out b c j
  | succ t ih =>
    rw [at_succ]
    refine (congrFun (STEP_main_v24_6 (at' V t)) _).trans ((o_read _ b c j).trans ?_)
    rw [slot_eq h t (by omega), select_ofBool, ih (by omega)]
    by_cases hj : j.val = t
    · rw [if_pos hj, if_pos (show j.val < t + 1 by omega), hj]; rfl
    · rw [if_neg hj]
      exact if_congr (by omega) rfl rfl

theorem box_out {V : Val} (h : Fresh V) (b : Fin 8) (c : Fin 80) (j : Fin 100) (d : Fin 4) (t : ℕ) (ht : t ≤ 100) :
    vB (at' V t) (ix4 b c j d) = if j.val < t then (if 0 < best V b c j.val then cand V b c (chosen V b c j.val) d else 0) else 0 := by
  induction t with
  | zero => exact h.box b c j d
  | succ t ih =>
    rw [at_succ]
    refine (congrFun (STEP_main_v24_7 (at' V t)) _).trans ((b_read _ b c j d).trans ?_)
    rw [slot_eq h t (by omega), select_ofBool, ih (by omega), box_at V h.num b c t d]
    by_cases hj : j.val = t
    · rw [if_pos hj, if_pos (show j.val < t + 1 by omega), hj]; rfl
    · rw [if_neg hj]
      exact if_congr (by omega) rfl rfl

end Cert.ReferenceIdeal.Nms

end
-- ==== Proof.Nms.Value.RIn.lean ====
/- The arrays both programs make of the nine arguments, and the reference's loop state before its first trip. -/
module

public import proofs.«01_k».proof.Proof.Nms.Value.RRun
public import Idealize.ShloMosaic.Lib.Pipeline.ValueKit

@[expose] public section

set_option maxRecDepth 65536

noncomputable section

namespace Cert.ReferenceIdeal.Nms

open Cert.ReferenceIdeal.Gen Cert.ReferenceIdeal.Value
open Idealize.ShloMosaic Idealize.ShloMosaic.TcCoe Idealize.ShloMosaic.Tactic
open Idealize.ShloMosaic.StableHlo

/-- The boxes of the three maps in one array. -/
def boxes (x : Vec Ideal S8x64x64x3x4 .f32) (y : Vec Ideal S8x32x32x3x4 .f32) (z : Vec Ideal S8x16x16x3x4 .f32) : Vec Ideal S8x16128x4 .f32 :=
  concatenate S8x16128x4 1 [⟨S8x12288x4, shapeCast S8x12288x4 x shapeCasts_S8x64x64x3x4_S8x12288x4⟩,
    ⟨S8x3072x4, shapeCast S8x3072x4 y shapeCasts_S8x32x32x3x4_S8x3072x4⟩,
    ⟨S8x768x4, shapeCast S8x768x4 z shapeCasts_S8x16x16x3x4_S8x768x4⟩] concatenates_S8x12288x4_S8x3072x4_S8x768x4_S8x16128x4_d1

/-- The confidences of the three maps in one array. -/
def conf (x : Vec Ideal S8x64x64x3x1 .f32) (y : Vec Ideal S8x32x32x3x1 .f32) (z : Vec Ideal S8x16x16x3x1 .f32) : Vec Ideal S8x16128x1 .f32 :=
  concatenate S8x16128x1 1 [⟨S8x12288x1, shapeCast S8x12288x1 x shapeCasts_S8x64x64x3x1_S8x12288x1⟩,
    ⟨S8x3072x1, shapeCast S8x3072x1 y shapeCasts_S8x32x32x3x1_S8x3072x1⟩,
    ⟨S8x768x1, shapeCast S8x768x1 z shapeCasts_S8x16x16x3x1_S8x768x1⟩] concatenates_S8x12288x1_S8x3072x1_S8x768x1_S8x16128x1_d1

/-- The class scores of the three maps in one array. -/
def classes (x : Vec Ideal S8x64x64x3x80 .f32) (y : Vec Ideal S8x32x32x3x80 .f32) (z : Vec Ideal S8x16x16x3x80 .f32) : Vec Ideal S8x16128x80 .f32 :=
  concatenate S8x16128x80 1 [⟨S8x12288x80, shapeCast S8x12288x80 x shapeCasts_S8x64x64x3x80_S8x12288x80⟩,
    ⟨S8x3072x80, shapeCast S8x3072x80 y shapeCasts_S8x32x32x3x80_S8x3072x80⟩,
    ⟨S8x768x80, shapeCast S8x768x80 z shapeCasts_S8x16x16x3x80_S8x768x80⟩] concatenates_S8x12288x80_S8x3072x80_S8x768x80_S8x16128x80_d1

/-- Every class's products of confidence and class score. -/
def prods (x : Vec Ideal S8x16128x1 .f32) (y : Vec Ideal S8x16128x80 .f32) : FVec Ideal S8x80x16128 .f32 :=
  transpose S8x80x16128 [0, 2, 1] (mulf (broadcastInDim S8x16128x80 ![0, 1, 2] bcast_S8x16128x1_S8x16128x80_0_1_2 x) y)
    transposes_S8x16128x80_S8x80x16128_0_2_1

/-- The products above the threshold, and minus one elsewhere. -/
def above (p : FVec Ideal S8x80x16128 .f32) : FVec Ideal S8x80x16128 .f32 :=
  select (cmpf .ogt p (broadcastInDim S8x80x16128 ![] bcast_S_S8x80x16128 (constant S_ .f32 1048576000#32))) p
    (broadcastInDim S8x80x16128 ![] bcast_S_S8x80x16128 (constant S_ .f32 3212836864#32))

theorem prods_at (x : Vec Ideal S8x16128x1 .f32) (y : Vec Ideal S8x16128x80 .f32) (b : Fin 8) (c : Fin 80) (n : Fin 16128) :
    prods x y (ix3 b c n) = x (ix3 b n 0) * y (ix3 b n c) := by
  unfold prods
  pointwise []

theorem above_at (p : FVec Ideal S8x80x16128 .f32) (b : Fin 8) (c : Fin 80) (n : Fin 16128) :
    above p (ix3 b c n) = if _root_.Nms.thr < p (ix3 b c n) then p (ix3 b c n) else _root_.Nms.neg1 := by
  unfold above
  pointwise []

variable (m : (ℓ : Loc nD τ sig) → Buf (Elt Ideal) ℓ) (c : Dev nD)

/-- The boxes, and the thresholded scores, of the arguments at a device. -/
def boxesIn : Vec Ideal S8x16128x4 .f32 := boxes (m (c, Proc.devRef .tc main_arg0)) (m (c, Proc.devRef .tc main_arg3)) (m (c, Proc.devRef .tc main_arg6))
def scoresIn : FVec Ideal S8x80x16128 .f32 :=
  above (prods (conf (m (c, Proc.devRef .tc main_arg1)) (m (c, Proc.devRef .tc main_arg4)) (m (c, Proc.devRef .tc main_arg7)))
    (classes (m (c, Proc.devRef .tc main_arg2)) (m (c, Proc.devRef .tc main_arg5)) (m (c, Proc.devRef .tc main_arg8))))

theorem vS_in : vS (entryContents (preI (F := Ideal)) m c)
    = (Host.topK S8x80x200 2 _root_.Nms.gt (scoresIn m c) sliceFits_S8x80x16128_S8x80x200).1 := by
  (simp only [vS, entryContents, afterL_cons, afterL_nil]; after_reads_simp) <;> rfl

theorem vC_in : vC (entryContents (preI (F := Ideal)) m c)
    = Host.gather gather_S8x16128x4_S8x80x200x1_S8x80x200x4_3_1_0_0_1_3_114 (boxesIn m c)
      (broadcastInDim S8x80x200x1 ![0, 1, 2] bcast_S8x80x200_S8x80x200x1_0_1_2
        (Host.topK S8x80x200 2 _root_.Nms.gt (scoresIn m c) sliceFits_S8x80x16128_S8x80x200).2) := by
  (simp only [vC, entryContents, afterL_cons, afterL_nil]; after_reads_simp) <;> sl_kernel_rfl

theorem vI_in : vI (entryContents (preI (F := Ideal)) m c) = iotaInDim S200 32 0 := by
  (simp only [vI, entryContents, afterL_cons, afterL_nil]; after_reads_simp) <;> rfl
theorem vJ_in : vJ (entryContents (preI (F := Ideal)) m c) = iotaInDim S100 32 0 := by
  (simp only [vJ, entryContents, afterL_cons, afterL_nil]; after_reads_simp) <;> rfl
theorem vT_in : vT (entryContents (preI (F := Ideal)) m c) = constantI S_ 32 0#32 := by
  (simp only [vT, entryContents, afterL_cons, afterL_nil]; after_reads_simp) <;> rfl
theorem vO_in : vO (entryContents (preI (F := Ideal)) m c) = broadcastInDim S8x80x100 ![] bcast_S_S8x80x100 (constant (F := Ideal) S_ .f32 0#32) := by
  (simp only [vO, entryContents, afterL_cons, afterL_nil]; after_reads_simp) <;> rfl
theorem vB_in : vB (entryContents (preI (F := Ideal)) m c) = broadcastInDim S8x80x100x4 ![] bcast_S_S8x80x100x4 (constant (F := Ideal) S_ .f32 0#32) := by
  (simp only [vB, entryContents, afterL_cons, afterL_nil]; after_reads_simp) <;> rfl

/-- The state before the first trip is a fresh one. -/
theorem fresh : Fresh (entryContents (preI (F := Ideal)) m c) where
  num k := (congrFun (vI_in m c) _).trans (by pointwise [])
  slot j := (congrFun (vJ_in m c) _).trans (by pointwise [])
  ctr := (congrFun (vT_in m c) _).trans (by pointwise [])
  out b d j := (congrFun (vO_in m c) _).trans (by pointwise [])
  box b d j k := (congrFun (vB_in m c) _).trans (by pointwise [])

/-- A class's scores, and where the `k`-th greatest of them stands. -/
def scoreRow (b : Fin 8) (d : Fin 80) (n : Fin 16128) : EReal := scoresIn m c (ix3 b d n)
def place (b : Fin 8) (d : Fin 80) (k : Fin 200) : Fin 16128 := _root_.Nms.srt (scoreRow m c b d) (k.castLE (by decide))

theorem vS_at (b : Fin 8) (d : Fin 80) (k : Fin 200) :
    vS (entryContents (preI (F := Ideal)) m c) (ix3 b d k) = scoreRow m c b d (place m c b d k) := by
  rw [vS_in]
  exact (_root_.Nms.topK3 (by decide) (scoresIn m c) _ b d k).1

theorem cand_in (b : Fin 8) (d : Fin 80) (k : Fin 200) (a : Fin 4) :
    cand (entryContents (preI (F := Ideal)) m c) b d k a = boxesIn m c (ix3 b (place m c b d k) a) := by
  unfold cand
  rw [vC_in, gather_boxes]
  have h := (_root_.Nms.topK3 (by decide) (scoresIn m c) sliceFits_S8x80x16128_S8x80x200 b d k).2
  have e : broadcastInDim S8x80x200x1 ![0, 1, 2] bcast_S8x80x200_S8x80x200x1_0_1_2
      (Host.topK S8x80x200 2 _root_.Nms.gt (scoresIn m c) sliceFits_S8x80x16128_S8x80x200).2 (ix4 b d k 0)
      = BitVec.ofNat 32 (place m c b d k).val := by
    refine Eq.trans ?_ h
    generalize (Host.topK S8x80x200 2 _root_.Nms.gt (scoresIn m c) sliceFits_S8x80x16128_S8x80x200).2 = z
    pointwise []
  rw [e, clampRow_ofNat _ (by decide)]

end Cert.ReferenceIdeal.Nms
end
-- ==== Proof.Nms.Value.KIn.lean ====
/- What the first region reads: the arrays made of the nine arguments, block by block. -/
module

public import proofs.«01_k».proof.Proof.Nms.KernelIdeal.Frame
public import proofs.«01_k».proof.Proof.Nms.Value.KOut0
public import proofs.«01_k».proof.Proof.Nms.Value.RIn
public import Idealize.ShloMosaic.Lib.Pipeline.ValueKit

@[expose] public section

set_option maxRecDepth 65536

noncomputable section

namespace Cert.KernelIdeal.Nms

open Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg) (c : Dev nD)

/-- The arguments' boxes, class scores and confidences at a device. -/
def boxesK : Vec Ideal S8x16128x4 .f32 := Cert.ReferenceIdeal.Nms.boxes (m (c, Proc.devRef .tc main_arg0)) (m (c, Proc.devRef .tc main_arg3)) (m (c, Proc.devRef .tc main_arg6))
def classesK : Vec Ideal S8x16128x80 .f32 := Cert.ReferenceIdeal.Nms.classes (m (c, Proc.devRef .tc main_arg2)) (m (c, Proc.devRef .tc main_arg5)) (m (c, Proc.devRef .tc main_arg8))
def confK (x : Vec Ideal S8x64x64x3x1 .f32) (y : Vec Ideal S8x32x32x3x1 .f32) (z : Vec Ideal S8x16x16x3x1 .f32) : Vec Ideal S8x16128 .f32 :=
  concatenate S8x16128 1 [⟨S8x12288, shapeCast S8x12288 x shapeCasts_S8x64x64x3x1_S8x12288⟩,
    ⟨S8x3072, shapeCast S8x3072 y shapeCasts_S8x32x32x3x1_S8x3072⟩,
    ⟨S8x768, shapeCast S8x768 z shapeCasts_S8x16x16x3x1_S8x768⟩] concatenates_S8x12288_S8x3072_S8x768_S8x16128_d1

theorem conf_at (x : Vec Ideal S8x64x64x3x1 .f32) (y : Vec Ideal S8x32x32x3x1 .f32) (z : Vec Ideal S8x16x16x3x1 .f32) (b : Fin 8) (n : Fin 16128) :
    confK x y z (ix2 b n) = Cert.ReferenceIdeal.Nms.conf x y z (ix3 b n 0) := by
  unfold confK Cert.ReferenceIdeal.Nms.conf
  pointwise []

theorem v13_in : W1 m ρ c (Proc.devRef .tc main_v13)
    = shapeCast S8x80x126x128 (transpose S8x80x16128 [0, 2, 1] (classesK m c) transposes_S8x16128x80_S8x80x16128_0_2_1) shapeCasts_S8x80x16128_S8x80x126x128 := by
  (simp only [W1]; after_reads_simp) <;> sl_kernel_rfl
theorem v14_in : W1 m ρ c (Proc.devRef .tc main_v14)
    = shapeCast S8x126x128 (confK (m (c, Proc.devRef .tc main_arg1)) (m (c, Proc.devRef .tc main_arg4)) (m (c, Proc.devRef .tc main_arg7))) shapeCasts_S8x16128_S8x126x128 := by
  (simp only [W1]; after_reads_simp) <;> sl_kernel_rfl
theorem v16_in : W1 m ρ c (Proc.devRef .tc main_v16)
    = shapeCast S8x4x126x128 (transpose S8x4x16128 [0, 2, 1] (boxesK m c) transposes_S8x16128x4_S8x4x16128_0_2_1) shapeCasts_S8x4x16128_S8x4x126x128 := by
  (simp only [W1]; after_reads_simp) <;> sl_kernel_rfl

/-- The position in its class of an image's element. -/
def posn (r : Fin 126) (l : Fin 128) : Fin 16128 := ⟨r.val * 128 + l.val, by omega⟩

theorem v13_at (b : Fin 8) (d : Fin 80) (r : Fin 126) (l : Fin 128) :
    W1 m ρ c (Proc.devRef .tc main_v13) (ix4 b d r l) = classesK m c (ix3 b (posn r l) d) := by
  refine (congrFun (v13_in m ρ c) _).trans ?_
  generalize classesK m c = z
  pointwise [posn]

theorem v14_at (b : Fin 8) (r : Fin 126) (l : Fin 128) :
    W1 m ρ c (Proc.devRef .tc main_v14) (ix3 b r l)
      = Cert.ReferenceIdeal.Nms.conf (m (c, Proc.devRef .tc main_arg1)) (m (c, Proc.devRef .tc main_arg4)) (m (c, Proc.devRef .tc main_arg7)) (ix3 b (posn r l) 0) := by
  refine (congrFun (v14_in m ρ c) _).trans ((?_ : _ = _).trans (conf_at _ _ _ b (posn r l)))
  generalize confK _ _ _ = z
  pointwise [posn]

theorem v16_at (b : Fin 8) (d : Fin 4) (r : Fin 126) (l : Fin 128) :
    W1 m ρ c (Proc.devRef .tc main_v16) (ix4 b d r l) = boxesK m c (ix3 b (posn r l) d) := by
  refine (congrFun (v16_in m ρ c) _).trans ?_
  generalize boxesK m c = z
  pointwise [posn]

end Cert.KernelIdeal.Nms

end
-- ==== Proof.Nms.Value.Match.lean ====
/- The kernel's selection of one class and the reference's meet, and so do the two merges. -/
module

public import proofs.«01_k».proof.Proof.Nms.Value.KRead
public import proofs.«01_k».proof.Proof.Nms.Value.KOut1
public import proofs.«01_k».proof.Proof.Nms.Value.KIn
public import proofs.«01_k».proof.Proof.Nms.Value.TopK

@[expose] public section

set_option maxRecDepth 65536

noncomputable section

namespace Cert.KernelIdeal.Nms

open Cert.KernelIdeal.Gen
open Idealize.ShloMosaic Idealize.ShloMosaic.TcCoe Idealize.ShloMosaic.Tactic
open _root_.Nms (KRun Rel Tops)

/-! ## One class -/

section cls
variable (row : Fin 16128 → EReal)

/-- Where the `k`-th greatest score stands, and its place in the image. -/
def nth (k : Fin 200) : Fin 16128 := _root_.Nms.srt row (k.castLE (by decide))
def spot (k : Fin 200) : P := (⟨(nth row k).val / 128, by omega⟩, ⟨(nth row k).val % 128, by omega⟩)

theorem posn_spot (k : Fin 200) : posn (spot row k).1 (spot row k).2 = nth row k :=
  Fin.ext (by show (nth row k).val / 128 * 128 + (nth row k).val % 128 = _; omega)

theorem nth_injective : Function.Injective (nth row) := fun k k' h =>
  Fin.ext (by have := congrArg Fin.val (_root_.Nms.srt_injective row h); exact this)

theorem spot_injective : Function.Injective (spot row) := fun k k' h =>
  nth_injective row (by rw [← posn_spot, ← posn_spot, h])

theorem posn_div (p : P) (n : Fin 16128) (h : posn p.1 p.2 = n) : p = (⟨n.val / 128, by omega⟩, ⟨n.val % 128, by omega⟩) := by
  subst h
  obtain ⟨r, l⟩ := p
  have hl := l.2
  refine Prod.ext (Fin.ext ?_) (Fin.ext ?_)
  · show r.val = (r.val * 128 + l.val) / 128
    omega
  · show l.val = (r.val * 128 + l.val) % 128
    omega

theorem off_le (p : P) (h : ∀ k, spot row k ≠ p) : row (posn p.1 p.2) ≤ row (_root_.Nms.srt row 200) := by
  obtain ⟨i, hi⟩ := _root_.Nms.srt_surjective row (posn p.1 p.2)
  rw [← hi]
  refine _root_.Nms.srt_anti row 200 i (Fin.le_def.mpr ?_)
  by_contra hlt
  have hlt' : i.val < 200 := by
    have : (200 : Fin 16128).val = 200 := rfl
    omega
  refine h ⟨i.val, hlt'⟩ ?_
  rw [posn_div p _ hi.symm]
  rfl

variable {row} (Y : Fin 4 → FVec Ideal S126x128 .f32) (s : FVec Ideal S126x128 .f32) (bx : Fin 16128 → Fin 4 → EReal)

theorem class_match (hs : ∀ p : P, g s p = row (posn p.1 p.2)) (hY : ∀ p : P, boxAt Y p = bx (posn p.1 p.2))
    (hrow : ∀ n, row n = _root_.Nms.neg1 ∨ _root_.Nms.thr < row n)
    (hgap : Ideal.ofBits .f32 654311424#32 ≤ row (_root_.Nms.srt row 199) - row (_root_.Nms.srt row 200) ∨ row (_root_.Nms.srt row 200) ≤ _root_.Nms.thr)
    (hlt : row (_root_.Nms.srt row 199) < Ideal.ofBits .f32 1069547520#32)
    (hinj : ∀ k k' : Fin 200, 0 < row (nth row k) → row (nth row k) = row (nth row k') → k = k')
    {R : ℕ → Fin 200 → EReal} {M : ℕ → EReal} {sel : ℕ → Fin 200}
    (hk : KRun (fun k => bx (nth row k)) _root_.Nms.Sup _root_.Nms.neg1 R M sel) (h0 : R 0 = fun k => row (nth row k)) (t : ℕ) :
    smax (leftAt Y (cut s (bisEnd (F := Ideal) s _root_.Nms.thr (Ideal.ofBits .f32 1069547520#32)).1) t) = M t ∧
    (0 < M t → hotBox Y (leftAt Y (cut s (bisEnd (F := Ideal) s _root_.Nms.thr (Ideal.ofBits .f32 1069547520#32)).1) t) = bx (nth row (sel t))) := by
  have hat : ∀ k, g s (spot row k) = row (nth row k) := fun k => by rw [hs, posn_spot]
  have hge : ∀ k : Fin 200, row (_root_.Nms.srt row 199) ≤ row (nth row k) := fun k =>
    _root_.Nms.srt_anti row _ 199 (Fin.le_def.mpr (by have := k.2; have e : (199 : Fin 16128).val = 199 := rfl; show k.val ≤ _; omega))
  have hlast : row (nth row (Fin.last 199)) = row (_root_.Nms.srt row 199) := rfl
  have hoff : ∀ p : P, (∀ k, spot row k ≠ p) → g s p ≤ row (_root_.Nms.srt row 200) := fun p hp => by
    rw [hs]; exact off_le row p hp
  have hwv : row (_root_.Nms.srt row 200) ≤ row (_root_.Nms.srt row 199) :=
    _root_.Nms.srt_anti row 199 200 (Fin.le_def.mpr (by decide))
  have hbis := bis_end s (v := row (_root_.Nms.srt row 199)) (by rw [← _root_.Nms.top_eq]; exact hlt) fun x => by
    have h := _root_.Nms.count_iff (N := 199) (spot_injective row) ((hat _).trans hlast) (fun k => (hge k).trans (hat k).ge)
      (fun p hp => (hoff p hp).trans hwv) x
    convert h
  have h14 : _root_.Nms.thr = ((1 / 4 : ℝ) : EReal) := _root_.Nms.thr_eq
  have hrel := hbis.rel (e := spot row) (s0 := g s) (n := _root_.Nms.neg1) (top := fun k => row (nth row k)) (N := 199) hlast hge hat
    (fun p => by rw [hs, ← h14]; exact hrow _) hoff hwv (by rw [← h14, ← _root_.Nms.gap_eq]; exact hgap)
    (s := g (cut s (bisEnd (F := Ideal) s _root_.Nms.thr (Ideal.ofBits .f32 1069547520#32)).1))
    (fun q => ⟨fun h => by rw [cut_eq, if_pos h], fun h => by rw [cut_eq, if_neg h]⟩)
  have htops : Tops _root_.Nms.neg1 (fun k => row (nth row k)) := ⟨_root_.Nms.neg1_neg, fun k => by
    rcases hrow (nth row k) with h | h
    · exact .inl h
    · refine .inr (lt_trans ?_ h)
      rw [h14]
      exact_mod_cast (by norm_num : (0 : ℝ) < 1 / 4), hinj⟩
  have hk' : KRun (fun k => boxAt Y (spot row k)) _root_.Nms.Sup _root_.Nms.neg1 R M sel := by
    have e : (fun k => boxAt Y (spot row k)) = fun k => bx (nth row k) := funext fun k => by rw [hY, posn_spot]
    rw [e]; exact hk
  have hp := pRun Y (cut s (bisEnd (F := Ideal) s _root_.Nms.thr (Ideal.ofBits .f32 1069547520#32)).1)
  have hr0 : Rel (spot row) _root_.Nms.neg1 (fun k => row (nth row k)) (g (leftAt Y (cut s (bisEnd (F := Ideal) s _root_.Nms.thr (Ideal.ofBits .f32 1069547520#32)).1) 0)) (R 0) := by
    rw [h0]; exact hrel
  refine ⟨_root_.Nms.run_max (spot_injective row) htops hp hk' hr0 t, fun hpos => ?_⟩
  rw [_root_.Nms.run_box (spot_injective row) htops hp hk' hr0 t hpos, hY, posn_spot]

end cls

/-! ## The merge -/

section merge
variable (S : FVec Ideal S80x128 .f32) (v : Fin 8000 → EReal)

/-- The class and lane of a slot of the flat row, and those of the `k`-th greatest. -/
def cell (n : Fin 8000) : Q := (⟨n.val / 100, by omega⟩, ⟨n.val % 100, by omega⟩)
def kth (k : Fin 100) : Fin 8000 := _root_.Nms.srt v (k.castLE (by decide))

theorem cell_injective : Function.Injective cell := fun n n' h => by
  have h1 := congrArg (fun q : Q => q.1.val) h
  have h2 := congrArg (fun q : Q => q.2.val) h
  simp only [cell] at h1 h2
  exact Fin.ext (by omega)

theorem kth_injective : Function.Injective (kth v) := fun k k' h =>
  Fin.ext (by have := congrArg Fin.val (_root_.Nms.srt_injective v h); exact this)

variable {S v} (hS : ∀ n, mg S (cell n) = v n) (hS0 : ∀ q : Q, 100 ≤ q.2.val → mg S q = 0) (hv : ∀ n, 0 ≤ v n)
  (hinj : ∀ n n', 0 < v n → v n = v n' → n = n')
include hS hS0

theorem cell_or (q : Q) : (∃ n, q = cell n) ∨ mg S q = 0 := by
  by_cases h : 100 ≤ q.2.val
  · exact .inr (hS0 q h)
  · refine .inl ⟨⟨q.1.val * 100 + q.2.val, by have := q.1.2; omega⟩, Prod.ext (Fin.ext ?_) (Fin.ext ?_)⟩
    · show q.1.val = (q.1.val * 100 + q.2.val) / 100
      omega
    · show q.2.val = (q.1.val * 100 + q.2.val) % 100
      omega

include hv

theorem merge_off (q : Q) (h : ∀ k, cell (kth v k) ≠ q) (k : Fin 100) : mg S q ≤ mg S (cell (kth v k)) := by
  rw [hS]
  rcases cell_or hS hS0 q with ⟨n, rfl⟩ | h0
  · rw [hS]
    obtain ⟨i, rfl⟩ := _root_.Nms.srt_surjective v n
    refine _root_.Nms.srt_anti v _ i (Fin.le_def.mpr ?_)
    show k.val ≤ i.val
    by_contra hlt
    exact h ⟨i.val, by omega⟩ rfl
  · rw [h0]; exact hv _

theorem merge_card : Scalar.minsi (BitVec.ofNat 32 (Finset.univ.filter fun q : Q => 0 < mg S q).card) 100#32
    = BitVec.ofNat 32 (Finset.univ.filter fun k : Fin 100 => 0 < v (kth v k)).card := by
  have h := _root_.Nms.merge_count (s := mg S) (f := fun k => cell (kth v k)) (fun a b hab => kth_injective v (cell_injective hab))
    (fun q hq j => merge_off hS hS0 hv q hq j)
  simp only [hS] at h
  have h' : min (Finset.univ.filter fun q : Q => 0 < mg S q).card 100 = (Finset.univ.filter fun k : Fin 100 => 0 < v (kth v k)).card := by
    convert h
  have hle : (Finset.univ.filter fun q : Q => 0 < mg S q).card ≤ 10240 := (Finset.card_le_univ _).trans (by simp [Q])
  rw [← h']
  generalize (Finset.univ.filter fun q : Q => 0 < mg S q).card = x at hle
  have hx : (BitVec.ofNat 32 x).slt 100#32 = decide (x < 100) := by
    rw [BitVec.slt_eq_decide, BitVec.toInt_eq_toNat_of_lt (by rw [BitVec.toNat_ofNat]; omega), BitVec.toNat_ofNat, Nat.mod_eq_of_lt (by omega)]
    refine decide_eq_decide.mpr ?_
    rw [show (100#32).toInt = 100 by decide]
    omega
  show (if (BitVec.ofNat 32 x).slt 100#32 then BitVec.ofNat 32 x else 100#32) = _
  rw [hx]
  by_cases hc : x < 100
  · rw [if_pos (decide_eq_true hc), min_eq_left hc.le]
  · rw [if_neg (by simpa using hc), min_eq_right (not_lt.mp hc)]

include hinj

/-- The greatest score left before step `k` is the `k`-th greatest, and lies in its cell alone if positive. -/
theorem merge_match (k : Fin 100) :
    (0 < k1_pay16 (mleft S k.val) ↔ 0 < v (kth v k)) ∧
    (0 < v (kth v k) → k1_pay16 (mleft S k.val) = v (kth v k) ∧ ∀ y, mread S y k.val = mg y (cell (kth v k))) := by
  have hq : ∀ q q' : Q, 0 < mg S q → mg S q = mg S q' → q = q' := fun q q' hp he => by
    rcases cell_or hS hS0 q with ⟨n, rfl⟩ | h0
    · rcases cell_or hS hS0 q' with ⟨n', rfl⟩ | h0'
      · rw [hS] at hp he
        rw [hS] at he
        rw [hinj n n' hp he]
      · rw [he, h0'] at hp
        exact absurd hp (lt_irrefl _)
    · rw [h0] at hp
      exact absurd hp (lt_irrefl _)
  have h := _root_.Nms.merge_pos (T := 100) (S := fun t => mg (mleft S t)) (M := fun t => k1_pay16 (mleft S t)) (f := fun k => cell (kth v k)) (n := _root_.Nms.neg1)
    (fun a b hab => kth_injective v (cell_injective hab))
    (fun i j hij => by
      show mg S _ ≤ mg S _
      rw [hS, hS]; exact _root_.Nms.srt_anti v _ _ (Fin.le_def.mpr (Fin.le_def.mp hij)))
    (fun q hq j => merge_off hS hS0 hv q hq j) hq _root_.Nms.neg1_neg.le (fun t => mmax_isMax _)
    (fun t q => by
      have e : mleft S (t + 1) = mrest (mleft S t) := Function.iterate_succ_apply' _ _ _
      simp only [e]
      exact mrest_upd _ q) k
  have e0 : mg (mleft S 0) (cell (kth v k)) = v (kth v k) := hS _
  simp only [e0] at h
  exact ⟨h.1, fun hp => ⟨(h.2 hp).1, fun y => mdot_hot _ y _ (h.2 hp).2⟩⟩

end merge

end Cert.KernelIdeal.Nms

end
-- ==== Proof.Nms.Value.KBlk.lean ====
/- The first region's input blocks at an index, in terms of the nine arguments. -/
module

public import proofs.«01_k».proof.Proof.Nms.KernelIdeal.Frame
public import proofs.«01_k».proof.Proof.Nms.Value.KOut0
public import proofs.«01_k».proof.Proof.Nms.Value.KIn
public import Idealize.ShloMosaic.Lib.Pipeline.ValueKit

@[expose] public section

set_option maxRecDepth 65536

noncomputable section

namespace Cert.KernelIdeal.Nms

open Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg) (c : Dev nD)

/-- A class's products of class score and confidence, and its thresholded image. -/
def prodK (b : Fin 8) (d : Fin 80) (r : Fin 126) (l : Fin 128) : EReal :=
  classesK m c (ix3 b (posn r l) d) * Cert.ReferenceIdeal.Nms.conf (m (c, Proc.devRef .tc main_arg1)) (m (c, Proc.devRef .tc main_arg4)) (m (c, Proc.devRef .tc main_arg7)) (ix3 b (posn r l) 0)

theorem idx0 : ∀ t : Fin grid0.N, win0_0.index t = ![(grid0.coords t 0).val, (grid0.coords t 1).val, 0, 0] ∧ win0_1.index t = ![(grid0.coords t 0).val, 0, 0]
    ∧ win0_2.index t = ![(grid0.coords t 0).val, 0, 0, 0] ∧ win0_3.index t = ![(grid0.coords t 0).val, (grid0.coords t 1).val, 0, 0]
    ∧ win0_4.index t = ![(grid0.coords t 0).val, (grid0.coords t 1).val, 0, 0] := by decide +kernel

theorem bnd0 : ∀ t : Fin grid0.N, (grid0.coords t 0).val < 8 ∧ (grid0.coords t 1).val < 5 := by decide +kernel

/-- The batch element and the class that a point's `j`-th image belongs to. -/
def bat (t : Fin grid0.N) : Fin 8 := ⟨(grid0.coords t 0).val, (bnd0 t).1⟩
def clsAt (t : Fin grid0.N) (j : Fin 16) : Fin 80 := ⟨(grid0.coords t 1).val * 16 + j.val, by have := (bnd0 t).2; omega⟩

theorem win0_at (V : (c : Dev nD) → (b : Ref sig .tc) → Buf (Elt Ideal) ((c : Thread nD τ).loc b)) (t : Fin grid0.N) (j : Fin 16) (r : Fin 126) (l : Fin 128) :
    iblk0 V c 0 t (ix4 0 j r l) = V c main_v13 (ix4 (bat t) (clsAt t j) r l) := by
  refine congrArg (V c main_v13) ?_
  blk_ext [(idx0 t).1, bat, clsAt]

theorem win1_at (V : (c : Dev nD) → (b : Ref sig .tc) → Buf (Elt Ideal) ((c : Thread nD τ).loc b)) (t : Fin grid0.N) (r : Fin 126) (l : Fin 128) :
    iblk0 V c 1 t (ix3 0 r l) = V c main_v14 (ix3 (bat t) r l) := by
  refine congrArg (V c main_v14) ?_
  blk_ext [(idx0 t).2.1, bat]

theorem win2_at (V : (c : Dev nD) → (b : Ref sig .tc) → Buf (Elt Ideal) ((c : Thread nD τ).loc b)) (t : Fin grid0.N) (d : Fin 4) (r : Fin 126) (l : Fin 128) :
    iblk0 V c 2 t (ix4 0 d r l) = V c main_v16 (ix4 (bat t) d r l) := by
  refine congrArg (V c main_v16) ?_
  blk_ext [(idx0 t).2.2.1, bat]

theorem ld_row (x : Vec Ideal S1x16x126x128 .f32) (j : Fin 16) (r : Fin 126) (l : Fin 128) :
    View.ld x (Rect.unit ![0, j.val, 0, 0] S1x1x126x128.size (row_inb j)) (ix4 0 0 r l) = x (ix4 0 j r l) := by
  refine congrArg x (funext fun a => Fin.ext ?_)
  fin_cases a <;> simp [ix4, Rect.emb]

theorem ld_box (x : Vec Ideal S1x4x126x128 .f32) (d : Fin 4) (r : Fin 126) (l : Fin 128) :
    View.ld x (Rect.unit ![0, d.val, 0, 0] S1x1x126x128.size (box_inb d)) (ix4 0 0 r l) = x (ix4 0 d r l) := by
  refine congrArg x (funext fun a => Fin.ext ?_)
  fin_cases a <;> simp [ix4, Rect.emb]

theorem cast4_at (z : Vec Ideal S1x1x126x128 .f32) (r : Fin 126) (l : Fin 128) :
    shapeCast S126x128 z shapeCasts_S1x1x126x128_S126x128 (ix2 r l) = z (ix4 0 0 r l) := by pointwise []

theorem cast3_at (z : Vec Ideal S1x126x128 .f32) (r : Fin 126) (l : Fin 128) :
    shapeCast S126x128 z shapeCasts_S1x126x128_S126x128 (ix2 r l) = z (ix3 0 r l) := by pointwise []

theorem mul_at (x y : FVec Ideal S126x128 .f32) (p : S126x128.Idx) (a b : EReal) (hx : x p = a) (hy : y p = b) : mulf x y p = a * b := by
  subst hx hy
  rfl

theorem prodImg_at (x0 : Vec Ideal S1x16x126x128 .f32) (x1 : Vec Ideal S1x126x128 .f32) (j : Fin 16) (r : Fin 126) (l : Fin 128) :
    prodImg x0 x1 j (ix2 r l) = x0 (ix4 0 j r l) * x1 (ix3 0 r l) :=
  mul_at _ _ _ _ _ ((cast4_at _ r l).trans (ld_row x0 j r l)) (cast3_at x1 r l)

theorem img_at (x0 : Vec Ideal S1x16x126x128 .f32) (x1 : Vec Ideal S1x126x128 .f32) (j : Fin 16) (r : Fin 126) (l : Fin 128) :
    img x0 x1 j (ix2 r l) = if _root_.Nms.thr < prodImg x0 x1 j (ix2 r l) then prodImg x0 x1 j (ix2 r l) else _root_.Nms.neg1 := by
  unfold img
  generalize prodImg x0 x1 j = z
  pointwise []

theorem boxImg_at (x2 : Vec Ideal S1x4x126x128 .f32) (d : Fin 4) (r : Fin 126) (l : Fin 128) :
    boxImg x2 d (ix2 r l) = x2 (ix4 0 d r l) :=
  (cast4_at _ r l).trans (ld_box x2 d r l)

/-- A class's thresholded image, and a coordinate's image of the boxes, in terms of the arguments. -/
def imgK (b : Fin 8) (d : Fin 80) : FVec Ideal S126x128 .f32 := fun p => if _root_.Nms.thr < prodK m c b d (p 0) (p 1) then prodK m c b d (p 0) (p 1) else _root_.Nms.neg1
def boxK (b : Fin 8) (d : Fin 4) : FVec Ideal S126x128 .f32 := fun p => boxesK m c (ix3 b (posn (p 0) (p 1)) d)

theorem img_of (x0 : Vec Ideal S1x16x126x128 .f32) (x1 : Vec Ideal S1x126x128 .f32) (j : Fin 16) (b : Fin 8) (d : Fin 80)
    (h0 : ∀ r l, x0 (ix4 0 j r l) = classesK m c (ix3 b (posn r l) d))
    (h1 : ∀ r l, x1 (ix3 0 r l) = Cert.ReferenceIdeal.Nms.conf (m (c, Proc.devRef .tc main_arg1)) (m (c, Proc.devRef .tc main_arg4)) (m (c, Proc.devRef .tc main_arg7)) (ix3 b (posn r l) 0)) :
    img x0 x1 j = imgK m c b d := by
  funext p
  obtain ⟨r, l, rfl⟩ : ∃ r l, p = ix2 r l := ⟨p 0, p 1, by funext a; fin_cases a <;> rfl⟩
  rw [img_at, prodImg_at, h0, h1]
  rfl

theorem box_of (x2 : Vec Ideal S1x4x126x128 .f32) (b : Fin 8) (d : Fin 4) (h : ∀ r l, x2 (ix4 0 d r l) = boxesK m c (ix3 b (posn r l) d)) :
    boxImg x2 d = boxK m c b d := by
  funext p
  obtain ⟨r, l, rfl⟩ : ∃ r l, p = ix2 r l := ⟨p 0, p 1, by funext a; fin_cases a <;> rfl⟩
  rw [boxImg_at, h]
  rfl

theorem img_blk (t : Fin grid0.N) (j : Fin 16) : img (iblk0 (V1 m ρ) c 0 t) (iblk0 (V1 m ρ) c 1 t) j = imgK m c (bat t) (clsAt t j) :=
  img_of m c _ _ j _ _ (fun r l => (win0_at c (V1 m ρ) t j r l).trans (v13_at m ρ c _ _ r l)) (fun r l => (win1_at c (V1 m ρ) t r l).trans (v14_at m ρ c _ r l))

theorem box_blk (t : Fin grid0.N) (d : Fin 4) : boxImg (iblk0 (V1 m ρ) c 2 t) d = boxK m c (bat t) d :=
  box_of m c _ _ d fun r l => (win2_at c (V1 m ρ) t d r l).trans (v16_at m ρ c _ d r l)

/-- The scores of a class that reach its threshold, and the class's end state. -/
def keptK (b : Fin 8) (d : Fin 80) : FVec Ideal S126x128 .f32 :=
  cut (imgK m c b d) (bisEnd (F := Ideal) (imgK m c b d) _root_.Nms.thr (Ideal.ofBits .f32 1069547520#32)).1
def endK (b : Fin 8) (d : Fin 80) : ClassSt Ideal :=
  classEnd (F := Ideal) (boxK m c b 0) (boxK m c b 1) (boxK m c b 2) (boxK m c b 3) lanes (keptK m c b d)

theorem classAt_blk (t : Fin grid0.N) (j : Fin 16) :
    classAt (iblk0 (V1 m ρ) c 0 t) (iblk0 (V1 m ρ) c 1 t) (iblk0 (V1 m ρ) c 2 t) j = endK m c (bat t) (clsAt t j) := by
  unfold classAt endK kept keptK
  rw [img_blk, box_blk, box_blk, box_blk, box_blk]

end Cert.KernelIdeal.Nms

end
-- ==== Proof.Nms.Value.KOut0b.lean ====
/- The first region's two output blocks are the rows of the classes' end states, read over the extended reals. -/
module

public import proofs.«01_k».proof.Proof.Nms.KernelIdeal.Frame
public import proofs.«01_k».proof.Proof.Nms.Value.KOut0
public import Idealize.ShloMosaic.Lib.Pipeline.ValueKit

@[expose] public section

set_option maxRecDepth 65536

noncomputable section

namespace Cert.KernelIdeal.Nms

open Cert.KernelIdeal.Gen
open Idealize.ShloMosaic

theorem out3_eq (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec Ideal S1x16x126x128 .f32) (x1 : Vec Ideal S1x126x128 .f32) (x2 : Vec Ideal S1x4x126x128 .f32) (j : Fin 16) (l : Fin 128) :
    out0_A_3 c i arg2 harg2 arg3 harg3 arg4 harg4 arg5 harg5 arg6 harg6 x0 x1 x2 (ix4 0 0 j l) = (classAt x0 x1 x2 j).2.1 (ix2 0 l) := by
  refine Eq.trans ?_ (stack16 (fun j => (classAt x0 x1 x2 j).2.1) j l)
  refine congrFun ?_ _
  frame_out
  congr 1 <;> sl_kernel_rfl

end Cert.KernelIdeal.Nms

end
-- ==== Proof.Nms.Value.KOut0c.lean ====
/- The first region's two output blocks are the rows of the classes' end states, read over the extended reals. -/
module

public import proofs.«01_k».proof.Proof.Nms.KernelIdeal.Frame
public import proofs.«01_k».proof.Proof.Nms.Value.KOut0
public import Idealize.ShloMosaic.Lib.Pipeline.ValueKit

@[expose] public section

set_option maxRecDepth 65536

noncomputable section

namespace Cert.KernelIdeal.Nms

open Cert.KernelIdeal.Gen
open Idealize.ShloMosaic

/-- One class's four rows of selected coordinates. -/
def quad (x0 : Vec Ideal S1x16x126x128 .f32) (x1 : Vec Ideal S1x126x128 .f32) (x2 : Vec Ideal S1x4x126x128 .f32) (j : Fin 16) : FVec Ideal S4x128 .f32 :=
  concatenate S4x128 0 [⟨S1x128, boxRow (classAt x0 x1 x2 j) 0⟩, ⟨S1x128, boxRow (classAt x0 x1 x2 j) 1⟩, ⟨S1x128, boxRow (classAt x0 x1 x2 j) 2⟩, ⟨S1x128, boxRow (classAt x0 x1 x2 j) 3⟩] concatenates_S1x128_S1x128_S1x128_S1x128_S4x128_d0

theorem quad_of (x0 : Vec Ideal S1x16x126x128 .f32) (x1 : Vec Ideal S1x126x128 .f32) (x2 : Vec Ideal S1x4x126x128 .f32) (j : Fin 16) (z : ClassSt Ideal) (h : z = classAt x0 x1 x2 j) :
    concatenate S4x128 0 [⟨S1x128, z.2.2.1⟩, ⟨S1x128, z.2.2.2.1⟩, ⟨S1x128, z.2.2.2.2.1⟩, ⟨S1x128, z.2.2.2.2.2⟩] concatenates_S1x128_S1x128_S1x128_S1x128_S4x128_d0 = quad x0 x1 x2 j := by
  subst h
  rfl

theorem classAt_of (x0 : Vec Ideal S1x16x126x128 .f32) (x1 : Vec Ideal S1x126x128 .f32) (x2 : Vec Ideal S1x4x126x128 .f32) (j : Fin 16)
    {a0 a1 a2 a3 z : FVec Ideal S126x128 .f32} {u v : Ideal .f32} {L : IVec S1x128 32}
    (h0 : a0 = boxImg x2 0) (h1 : a1 = boxImg x2 1) (h2 : a2 = boxImg x2 2) (h3 : a3 = boxImg x2 3) (hz : z = img x0 x1 j)
    (hu : u = _root_.Nms.thr) (hv : v = Ideal.ofBits .f32 1069547520#32) (hL : L = lanes) :
    classEnd (F := Ideal) a0 a1 a2 a3 L (cut z (bisEnd (F := Ideal) z u v).1) = classAt x0 x1 x2 j := by
  subst h0 h1 h2 h3 hz hu hv hL
  rfl

theorem stack_of {a1 a2 a3 a4 a5 a6 a7 a8 a9 a10 a11 a12 a13 a14 a15 a16 b1 b2 b3 b4 b5 b6 b7 b8 b9 b10 b11 b12 b13 b14 b15 b16 : FVec Ideal S4x128 .f32} (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) :
    k0_pay1 a1 a2 a3 a4 a5 a6 a7 a8 a9 a10 a11 a12 a13 a14 a15 a16 = k0_pay1 b1 b2 b3 b4 b5 b6 b7 b8 b9 b10 b11 b12 b13 b14 b15 b16 := by
  subst h1 h2 h3 h4 h5 h6 h7 h8 h9 h10 h11 h12 h13 h14 h15 h16
  rfl

theorem out4_whole (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec Ideal S1x16x126x128 .f32) (x1 : Vec Ideal S1x126x128 .f32) (x2 : Vec Ideal S1x4x126x128 .f32) :
    out0_A_4 c i arg2 harg2 arg3 harg3 arg4 harg4 arg5 harg5 arg6 harg6 x0 x1 x2
      = k0_pay1 (quad x0 x1 x2 0) (quad x0 x1 x2 1) (quad x0 x1 x2 2) (quad x0 x1 x2 3) (quad x0 x1 x2 4) (quad x0 x1 x2 5) (quad x0 x1 x2 6) (quad x0 x1 x2 7) (quad x0 x1 x2 8) (quad x0 x1 x2 9) (quad x0 x1 x2 10) (quad x0 x1 x2 11) (quad x0 x1 x2 12) (quad x0 x1 x2 13) (quad x0 x1 x2 14) (quad x0 x1 x2 15) := by
  frame_out
  have e2 : arg2.view.read (Elt Ideal) (harg2.unread x0) = x0 := harg2.read_unread x0
  have e3 : arg3.view.read (Elt Ideal) (harg3.unread x1) = x1 := harg3.read_unread x1
  have e4 : arg4.view.read (Elt Ideal) (harg4.unread x2) = x2 := harg4.read_unread x2
  rw [e2, e3, e4]
  have e5 := View.ld_unit_zero (S := S1x126x128) (off := ![0, 0, 0]) (by funext a; fin_cases a <;> rfl) inb_S1x126x128_S1x126x128_0_0_0 x1
  rw [e5]
  refine stack_of ?_ ?_ ?_ ?_ ?_ ?_ ?_ ?_ ?_ ?_ ?_ ?_ ?_ ?_ ?_ ?_ <;> (refine quad_of x0 x1 x2 _ _ (classAt_of x0 x1 x2 _ ?_ ?_ ?_ ?_ ?_ ?_ ?_ ?_) <;> sl_kernel_rfl)

theorem out4_eq (c : Dev nD) (i : grid0.Coords) (arg2 : Memref sig .tc .vmem S1x16x126x128 .f32) (harg2 : arg2.IsWhole) (arg3 : Memref sig .tc .vmem S1x126x128 .f32) (harg3 : arg3.IsWhole) (arg4 : Memref sig .tc .vmem S1x4x126x128 .f32) (harg4 : arg4.IsWhole) (arg5 : Memref sig .tc .vmem S1x1x16x128 .f32) (harg5 : arg5.IsWhole) (arg6 : Memref sig .tc .vmem S1x1x64x128 .f32) (harg6 : arg6.IsWhole)
    (x0 : Vec Ideal S1x16x126x128 .f32) (x1 : Vec Ideal S1x126x128 .f32) (x2 : Vec Ideal S1x4x126x128 .f32) (j : Fin 16) (d : Fin 4) (h : 4 * j.val + d.val < 64) (l : Fin 128) :
    out0_A_4 c i arg2 harg2 arg3 harg3 arg4 harg4 arg5 harg5 arg6 harg6 x0 x1 x2 (ix4 0 0 ⟨4 * j.val + d.val, h⟩ l) = boxRow (classAt x0 x1 x2 j) d (ix2 0 l) := by
  rw [out4_whole]
  exact (stack64 (quad x0 x1 x2) j d h l).trans (stack4 (boxRow (classAt x0 x1 x2 j)) d l)

end Cert.KernelIdeal.Nms

end
-- ==== Proof.Nms.Value.KArr.lean ====
/- The first region's two arrays, and the second region's input blocks, in terms of the nine arguments. -/
module

public import proofs.«01_k».proof.Proof.Nms.KernelIdeal.Frame
public import proofs.«01_k».proof.Proof.Nms.Value.KBlk
public import proofs.«01_k».proof.Proof.Nms.Value.KOut0b
public import proofs.«01_k».proof.Proof.Nms.Value.KOut0c
public import Idealize.ShloMosaic.Lib.Pipeline.ValueKit
public import Idealize.ShloMosaic.Lib.Pipeline.Covers

@[expose] public section

set_option maxRecDepth 65536

noncomputable section

namespace Cert.KernelIdeal.Nms

open Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg) (c : Dev nD)

theorem grp (k : Fin 5) (j : Fin 16) : k.val * 16 + j.val < 80 := by omega

/-- The group of classes that a point holds. -/
def grpAt (t : Fin grid0.N) : Fin 5 := ⟨(grid0.coords t 1).val, (bnd0 t).2⟩

/-- The scores of every class, by group. -/
def scoreArr : Vec Ideal S8x5x16x128 .f32 := fun y => (endK m c (y 0) ⟨(y 1).val * 16 + (y 2).val, grp (y 1) (y 2)⟩).2.1 (ix2 0 (y 3))

theorem after3_at (t : Fin grid0.N) (j : Fin 16) (l : Fin 128) :
    (dat0 (V1 m ρ) c).after 3 t (ix4 0 0 j l) = (endK m c (bat t) (clsAt t j)).2.1 (ix2 0 l) := by
  refine (congrFun (after0_3 (V1 m ρ) c t) _).trans ?_
  refine Eq.trans ?_ (congrArg (fun x : ClassSt Ideal => x.2.1 (ix2 0 l)) (classAt_blk m ρ c t j))
  refine Eq.trans ?_ (out3_eq c (grid0.coords t) (ms0_0 t) (hs0_0 t) (ms0_1 t) (hs0_1 t) (ms0_2 t) (hs0_2 t) (ms0_3 t) (hs0_3 t) (ms0_4 t) (hs0_4 t) (iblk0 (V1 m ρ) c 0 t) (iblk0 (V1 m ρ) c 1 t) (iblk0 (V1 m ρ) c 2 t) j l)
  sl_kernel_rfl

theorem arr3 : (dat0 (V1 m ρ) c).arrAt 3 cfg0.N = scoreArr m c := by
  refine (dat0 (V1 m ρ) c).arrAt_eq_of_covers 3 _ (by decide +kernel) fun t hf y => ?_
  obtain ⟨j, l, rfl⟩ : ∃ j l, y = ix4 0 0 j l := ⟨y 2, y 3, by
    funext a; fin_cases a
    · exact Subsingleton.elim (α := Fin 1) _ _
    · exact Subsingleton.elim (α := Fin 1) _ _
    · rfl
    · rfl⟩
  blk_simp
  have e : (win0_3.blk t).view.emb (ix4 0 0 j l) = ix4 (bat t) (grpAt t) j l := by
    blk_ext [(idx0 t).2.2.2.1, bat, grpAt]
  rw [e]
  exact after3_at m ρ c t j l

/-- The selected boxes of every class, four rows a class, by group. -/
def boxArr : Vec Ideal S8x5x64x128 .f32 := fun y =>
  boxRow (endK m c (y 0) ⟨(y 1).val * 16 + (y 2).val / 4, by have h1 := (y 1).isLt; have h2 := (y 2).isLt; simp [Shape.size] at h1 h2; omega⟩) ⟨(y 2).val % 4, Nat.mod_lt _ (by decide)⟩ (ix2 0 (y 3))

theorem after4_at (t : Fin grid0.N) (j : Fin 16) (d : Fin 4) (h : 4 * j.val + d.val < 64) (l : Fin 128) :
    (dat0 (V1 m ρ) c).after 4 t (ix4 0 0 ⟨4 * j.val + d.val, h⟩ l) = boxRow (endK m c (bat t) (clsAt t j)) d (ix2 0 l) := by
  refine (congrFun (after0_4 (V1 m ρ) c t) _).trans ?_
  refine Eq.trans ?_ (congrArg (fun x : ClassSt Ideal => boxRow x d (ix2 0 l)) (classAt_blk m ρ c t j))
  refine Eq.trans ?_ (out4_eq c (grid0.coords t) (ms0_0 t) (hs0_0 t) (ms0_1 t) (hs0_1 t) (ms0_2 t) (hs0_2 t) (ms0_3 t) (hs0_3 t) (ms0_4 t) (hs0_4 t) (iblk0 (V1 m ρ) c 0 t) (iblk0 (V1 m ρ) c 1 t) (iblk0 (V1 m ρ) c 2 t) j d h l)
  sl_kernel_rfl

theorem boxArr_at (b : Fin 8) (k : Fin 5) (j : Fin 16) (d : Fin 4) (h : 4 * j.val + d.val < 64) (l : Fin 128) :
    boxArr m c (ix4 b k ⟨4 * j.val + d.val, h⟩ l) = boxRow (endK m c b ⟨k.val * 16 + j.val, grp k j⟩) d (ix2 0 l) := by
  have hd := d.2
  have e1 : (4 * j.val + d.val) / 4 = j.val := by omega
  have e2 : (4 * j.val + d.val) % 4 = d.val := by omega
  have f1 : (⟨k.val * 16 + (4 * j.val + d.val) / 4, by omega⟩ : Fin 80) = ⟨k.val * 16 + j.val, grp k j⟩ := Fin.ext (by show k.val * 16 + (4 * j.val + d.val) / 4 = k.val * 16 + j.val; omega)
  have f2 : (⟨(4 * j.val + d.val) % 4, Nat.mod_lt _ (by decide)⟩ : Fin 4) = d := Fin.ext e2
  refine Eq.trans (b := boxRow (endK m c b ⟨k.val * 16 + (4 * j.val + d.val) / 4, by omega⟩) ⟨(4 * j.val + d.val) % 4, Nat.mod_lt _ (by decide)⟩ (ix2 0 l)) rfl ?_
  rw [f1, f2]

theorem arr4 : (dat0 (V1 m ρ) c).arrAt 4 cfg0.N = boxArr m c := by
  refine (dat0 (V1 m ρ) c).arrAt_eq_of_covers 4 _ (by decide +kernel) fun t hf y => ?_
  obtain ⟨q, l, rfl⟩ : ∃ q l, y = ix4 0 0 q l := ⟨y 2, y 3, by
    funext a; fin_cases a
    · exact Subsingleton.elim (α := Fin 1) _ _
    · exact Subsingleton.elim (α := Fin 1) _ _
    · rfl
    · rfl⟩
  obtain ⟨j, d, h, rfl⟩ : ∃ (j : Fin 16) (d : Fin 4) (h : 4 * j.val + d.val < 64), q = ⟨4 * j.val + d.val, h⟩ := by
    have hq : q.val < 64 := q.isLt
    exact ⟨⟨q.val / 4, by omega⟩, ⟨q.val % 4, by omega⟩, by show 4 * (q.val / 4) + q.val % 4 < 64; omega, Fin.ext (by show q.val = 4 * (q.val / 4) + q.val % 4; omega)⟩
  blk_simp
  have e : (win0_4.blk t).view.emb (ix4 0 0 ⟨4 * j.val + d.val, h⟩ l) = ix4 (bat t) (grpAt t) ⟨4 * j.val + d.val, h⟩ l := by
    blk_ext [(idx0 t).2.2.2.2, bat, grpAt]
  rw [e]
  exact (after4_at m ρ c t j d h l).trans (boxArr_at m c (bat t) (grpAt t) j d h l).symm

/-! ## The second region's input blocks -/

theorem v18_in : W3 m ρ c (Proc.devRef .tc main_v18) = shapeCast S8x80x128 (scoreArr m c) shapeCasts_S8x5x16x128_S8x80x128 := by
  have h : W2 m ρ c (Proc.devRef .tc main_v17_0) = scoreArr m c := (W2_arr m ρ c 3).trans (arr3 m ρ c)
  rw [← h]
  (simp only [W3]; after_reads_simp) <;> rfl

theorem v19_in : W3 m ρ c (Proc.devRef .tc main_v19) = shapeCast S8x80x4x128 (boxArr m c) shapeCasts_S8x5x64x128_S8x80x4x128 := by
  have h : W2 m ρ c (Proc.devRef .tc main_v17_1) = boxArr m c := (W2_arr m ρ c 4).trans (arr4 m ρ c)
  rw [← h]
  (simp only [W3]; after_reads_simp) <;> rfl

theorem split80 (d : Fin 80) : ∃ (k : Fin 5) (j : Fin 16), d = ⟨k.val * 16 + j.val, grp k j⟩ :=
  ⟨⟨d.val / 16, by omega⟩, ⟨d.val % 16, by omega⟩, Fin.ext (by show d.val = d.val / 16 * 16 + d.val % 16; omega)⟩

theorem cast18_at (z : Vec Ideal S8x5x16x128 .f32) (b : Fin 8) (k : Fin 5) (j : Fin 16) (l : Fin 128) :
    shapeCast S8x80x128 z shapeCasts_S8x5x16x128_S8x80x128 (ix3 b ⟨k.val * 16 + j.val, grp k j⟩ l) = z (ix4 b k j l) := by
  pointwise []

theorem cast19_at (z : Vec Ideal S8x5x64x128 .f32) (b : Fin 8) (k : Fin 5) (j : Fin 16) (d : Fin 4) (h : 4 * j.val + d.val < 64) (l : Fin 128) :
    shapeCast S8x80x4x128 z shapeCasts_S8x5x64x128_S8x80x4x128 (ix4 b ⟨k.val * 16 + j.val, grp k j⟩ d l) = z (ix4 b k ⟨4 * j.val + d.val, h⟩ l) := by
  pointwise []
  exact congrArg (fun q => z (ix4 b k q l)) (Fin.ext (by show (k.val * 16 + j.val) % 16 * 4 + d.val = 4 * j.val + d.val; omega))

theorem v18_at (b : Fin 8) (d : Fin 80) (l : Fin 128) : W3 m ρ c (Proc.devRef .tc main_v18) (ix3 b d l) = (endK m c b d).2.1 (ix2 0 l) := by
  obtain ⟨k, j, rfl⟩ := split80 d
  exact (congrFun (v18_in m ρ c) _).trans (cast18_at _ b k j l)

theorem v19_at (b : Fin 8) (d : Fin 80) (a : Fin 4) (l : Fin 128) : W3 m ρ c (Proc.devRef .tc main_v19) (ix4 b d a l) = boxRow (endK m c b d) a (ix2 0 l) := by
  obtain ⟨k, j, rfl⟩ := split80 d
  exact (congrFun (v19_in m ρ c) _).trans ((cast19_at _ b k j a (by omega) l).trans (boxArr_at m c b k j a _ l))

end Cert.KernelIdeal.Nms

end
-- ==== Proof.Nms.Value.KFin.lean ====
/- The second region's arrays and the kernel's four results, in terms of the classes' end states. -/
module

public import proofs.«01_k».proof.Proof.Nms.KernelIdeal.Frame
public import proofs.«01_k».proof.Proof.Nms.Value.KArr
public import proofs.«01_k».proof.Proof.Nms.Value.KOut1
public import Idealize.ShloMosaic.Lib.Pipeline.ValueKit
public import Idealize.ShloMosaic.Lib.Pipeline.Covers

@[expose] public section

set_option maxRecDepth 65536

noncomputable section

namespace Cert.KernelIdeal.Nms

open Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg) (c : Dev nD)

/-- A batch element's selected scores, and one coordinate of its selected boxes, by class and lane. -/
def selS (b : Fin 8) : FVec Ideal S80x128 .f32 := fun p => (endK m c b (p 0)).2.1 (ix2 0 (p 1))
def selB (b : Fin 8) (d : Fin 4) : FVec Ideal S80x128 .f32 := fun p => boxRow (endK m c b (p 0)) d (ix2 0 (p 1))

theorem idx1 : ∀ t : Fin grid1.N, win1_0.index t = ![(grid1.coords t 0).val, 0, 0] ∧ win1_1.index t = ![(grid1.coords t 0).val, 0, 0, 0]
    ∧ win1_2.index t = ![(grid1.coords t 0).val, 0, 0] ∧ win1_3.index t = ![(grid1.coords t 0).val, 0, 0]
    ∧ win1_4.index t = ![(grid1.coords t 0).val, 0, 0] ∧ win1_5.index t = ![(grid1.coords t 0).val, 0, 0] := by decide +kernel

theorem bnd1 : ∀ t : Fin grid1.N, (grid1.coords t 0).val < 8 := by decide +kernel

/-- The batch element that a point of the second region belongs to. -/
def bat1 (t : Fin grid1.N) : Fin 8 := ⟨(grid1.coords t 0).val, bnd1 t⟩

theorem win1_0_at (V : (c : Dev nD) → (b : Ref sig .tc) → Buf (Elt Ideal) ((c : Thread nD τ).loc b)) (t : Fin grid1.N) (d : Fin 80) (l : Fin 128) :
    iblk1 V c 0 t (ix3 0 d l) = V c main_v18 (ix3 (bat1 t) d l) := by
  refine congrArg (V c main_v18) ?_
  blk_ext [(idx1 t).1, bat1]

theorem win1_1_at (V : (c : Dev nD) → (b : Ref sig .tc) → Buf (Elt Ideal) ((c : Thread nD τ).loc b)) (t : Fin grid1.N) (d : Fin 80) (a : Fin 4) (l : Fin 128) :
    iblk1 V c 1 t (ix4 0 d a l) = V c main_v19 (ix4 (bat1 t) d a l) := by
  refine congrArg (V c main_v19) ?_
  blk_ext [(idx1 t).2.1, bat1]

theorem pay1_at (z : Vec Ideal S1x80x128 .f32) (d : Fin 80) (l : Fin 128) : k1_pay1 z (ix2 d l) = z (ix3 0 d l) := by pointwise [k1_pay1]

theorem castp_at (z : Vec Ideal S1x80x1x128 .f32) (d : Fin 80) (l : Fin 128) :
    shapeCast S80x128 z shapeCasts_S1x80x1x128_S80x128 (ix2 d l) = z (ix4 0 d 0 l) := by pointwise []

theorem ld_plane (x : Vec Ideal S1x80x4x128 .f32) (d : Fin 80) (a : Fin 4) (l : Fin 128) :
    View.ld x (Rect.unit ![0, 0, a.val, 0] S1x80x1x128.size (plane_inb a)) (ix4 0 d 0 l) = x (ix4 0 d a l) := by
  refine congrArg x (funext fun i => Fin.ext ?_)
  fin_cases i <;> simp [ix4, Rect.emb]

theorem selS_of (x0 : Vec Ideal S1x80x128 .f32) (b : Fin 8) (h : ∀ d l, x0 (ix3 0 d l) = (endK m c b d).2.1 (ix2 0 l)) : k1_pay1 x0 = selS m c b := by
  funext p
  obtain ⟨r, l, rfl⟩ : ∃ r l, p = ix2 r l := ⟨p 0, p 1, by funext a; fin_cases a <;> rfl⟩
  rw [pay1_at, h]
  rfl

theorem selB_of (x1 : Vec Ideal S1x80x4x128 .f32) (b : Fin 8) (a : Fin 4) (h : ∀ d l, x1 (ix4 0 d a l) = boxRow (endK m c b d) a (ix2 0 l)) :
    plane x1 a = selB m c b a := by
  funext p
  obtain ⟨r, l, rfl⟩ : ∃ r l, p = ix2 r l := ⟨p 0, p 1, by funext a; fin_cases a <;> rfl⟩
  exact (castp_at _ r l).trans ((ld_plane x1 r a l).trans (h r l))

theorem selS_blk (t : Fin grid1.N) : k1_pay1 (iblk1 (V3 m ρ) c 0 t) = selS m c (bat1 t) :=
  selS_of m c _ _ fun d l => (win1_0_at c (V3 m ρ) t d l).trans (v18_at m ρ c _ d l)

theorem selB_blk (t : Fin grid1.N) (a : Fin 4) : plane (iblk1 (V3 m ρ) c 1 t) a = selB m c (bat1 t) a :=
  selB_of m c _ _ a fun d l => (win1_1_at c (V3 m ρ) t d a l).trans (v19_at m ρ c _ d a l)

/-! ## The merge's results -/

def outS (b : Fin 8) (l : Fin 128) : EReal := mlane (selS m c b) (fun t => k1_pay16 (mleft (selS m c b) t)) 100 l
def outC (b : Fin 8) (l : Fin 128) : EReal := mlane (selS m c b) (mread (selS m c b) (k1_pay2 (F := Ideal))) 100 l
def outB (b : Fin 8) (a : Fin 4) (l : Fin 128) : EReal := mlane (selS m c b) (mread (selS m c b) (selB m c b a)) 100 l
def outN (b : Fin 8) : BitVec 32 := Scalar.minsi (BitVec.ofNat 32 (Finset.univ.filter fun q : Q => 0 < mg (selS m c b) q).card) 100#32

theorem after2_at (t : Fin grid1.N) (l : Fin 128) : (dat1 (V3 m ρ) c).after 2 t (ix3 0 0 l) = outS m c (bat1 t) l := by
  refine (congrFun (after1_2 (V3 m ρ) c t) _).trans ?_
  unfold outS
  rw [← selS_blk m ρ c t]
  refine Eq.trans ?_ (out2_eq c (grid1.coords t) (ms1_0 t) (hs1_0 t) (ms1_1 t) (hs1_1 t) (ms1_2 t) (hs1_2 t) (ms1_3 t) (hs1_3 t) (ms1_4 t) (hs1_4 t) (ms1_5 t) (hs1_5 t) (iblk1 (V3 m ρ) c 0 t) (iblk1 (V3 m ρ) c 1 t) l)
  sl_kernel_rfl

theorem after3'_at (t : Fin grid1.N) (l : Fin 128) : (dat1 (V3 m ρ) c).after 3 t (ix3 0 0 l) = outC m c (bat1 t) l := by
  refine (congrFun (after1_3 (V3 m ρ) c t) _).trans ?_
  unfold outC
  rw [← selS_blk m ρ c t]
  refine Eq.trans ?_ (out3_eq' c (grid1.coords t) (ms1_0 t) (hs1_0 t) (ms1_1 t) (hs1_1 t) (ms1_2 t) (hs1_2 t) (ms1_3 t) (hs1_3 t) (ms1_4 t) (hs1_4 t) (ms1_5 t) (hs1_5 t) (iblk1 (V3 m ρ) c 0 t) (iblk1 (V3 m ρ) c 1 t) l)
  sl_kernel_rfl

theorem after4'_at (t : Fin grid1.N) (a : Fin 4) (l : Fin 128) : (dat1 (V3 m ρ) c).after 4 t (ix3 0 a l) = outB m c (bat1 t) a l := by
  refine (congrFun (after1_4 (V3 m ρ) c t) _).trans ?_
  unfold outB
  rw [← selS_blk m ρ c t, ← selB_blk m ρ c t a]
  refine Eq.trans ?_ (out4_eq' c (grid1.coords t) (ms1_0 t) (hs1_0 t) (ms1_1 t) (hs1_1 t) (ms1_2 t) (hs1_2 t) (ms1_3 t) (hs1_3 t) (ms1_4 t) (hs1_4 t) (ms1_5 t) (hs1_5 t) (iblk1 (V3 m ρ) c 0 t) (iblk1 (V3 m ρ) c 1 t) a l)
  sl_kernel_rfl

theorem after5_at (t : Fin grid1.N) : (dat1 (V3 m ρ) c).after 5 t (ix3 0 0 0) = outN m c (bat1 t) := by
  refine (congrFun (after1_5 (V3 m ρ) c t) _).trans ?_
  unfold outN
  rw [← selS_blk m ρ c t]
  refine Eq.trans ?_ (out5_eq c (grid1.coords t) (ms1_0 t) (hs1_0 t) (ms1_1 t) (hs1_1 t) (ms1_2 t) (hs1_2 t) (ms1_3 t) (hs1_3 t) (ms1_4 t) (hs1_4 t) (ms1_5 t) (hs1_5 t) (iblk1 (V3 m ρ) c 0 t) (iblk1 (V3 m ρ) c 1 t))
  sl_kernel_rfl

theorem row3 {n : ℕ} (y : (⟨3, ![1, 1, n]⟩ : Shape).Idx) : ∃ l : Fin n, y = ix3 0 0 l := ⟨y 2, by
  funext a; fin_cases a
  · exact Subsingleton.elim (α := Fin 1) _ _
  · exact Subsingleton.elim (α := Fin 1) _ _
  · rfl⟩

theorem arr20_0 : (dat1 (V3 m ρ) c).arrAt 2 cfg1.N = (fun y => outS m c (y 0) (y 2) : Vec Ideal S8x1x128 .f32) := by
  refine (dat1 (V3 m ρ) c).arrAt_eq_of_covers 2 _ (by decide +kernel) fun t hf y => ?_
  obtain ⟨l, rfl⟩ := row3 (n := 128) y
  blk_simp
  have e : (win1_2.blk t).view.emb (ix3 0 0 l) = ix3 (bat1 t) 0 l := by
    blk_ext [(idx1 t).2.2.1, bat1]
  rw [e]
  exact after2_at m ρ c t l

theorem arr20_1 : (dat1 (V3 m ρ) c).arrAt 3 cfg1.N = (fun y => outC m c (y 0) (y 2) : Vec Ideal S8x1x128 .f32) := by
  refine (dat1 (V3 m ρ) c).arrAt_eq_of_covers 3 _ (by decide +kernel) fun t hf y => ?_
  obtain ⟨l, rfl⟩ := row3 (n := 128) y
  blk_simp
  have e : (win1_3.blk t).view.emb (ix3 0 0 l) = ix3 (bat1 t) 0 l := by
    blk_ext [(idx1 t).2.2.2.1, bat1]
  rw [e]
  exact after3'_at m ρ c t l

theorem arr20_2 : (dat1 (V3 m ρ) c).arrAt 4 cfg1.N = (fun y => outB m c (y 0) (y 1) (y 2) : Vec Ideal S8x4x128 .f32) := by
  refine (dat1 (V3 m ρ) c).arrAt_eq_of_covers 4 _ (by decide +kernel) fun t hf y => ?_
  obtain ⟨a, l, rfl⟩ : ∃ a l, y = ix3 0 a l := ⟨y 1, y 2, by
    funext a; fin_cases a
    · exact Subsingleton.elim (α := Fin 1) _ _
    · rfl
    · rfl⟩
  blk_simp
  have e : (win1_4.blk t).view.emb (ix3 0 a l) = ix3 (bat1 t) a l := by
    blk_ext [(idx1 t).2.2.2.2.1, bat1]
  rw [e]
  exact after4'_at m ρ c t a l

theorem arr20_3 : (dat1 (V3 m ρ) c).arrAt 5 cfg1.N = (fun y => outN m c (y 0) : Vec Ideal S8x1x1 .i32) := by
  refine (dat1 (V3 m ρ) c).arrAt_eq_of_covers 5 _ (by decide +kernel) fun t hf y => ?_
  obtain ⟨l, rfl⟩ := row3 (n := 1) y
  obtain rfl : l = 0 := Subsingleton.elim _ _
  blk_simp
  have e : (win1_5.blk t).view.emb (ix3 0 0 0) = ix3 (bat1 t) 0 0 := by
    blk_ext [(idx1 t).2.2.2.2.2, bat1]
  rw [e]
  exact after5_at m ρ c t

/-! ## The four results -/

theorem v22_at (b : Fin 8) (k : Fin 100) (a : Fin 4) : W5 m ρ c (Proc.devRef .tc main_v22) (ix3 b k a) = outB m c b a (k.castLE (by decide)) := by
  have h : W4 m ρ c (Proc.devRef .tc main_v20_2) = (fun y => outB m c (y 0) (y 1) (y 2) : Vec Ideal S8x4x128 .f32) := (W4_arr m ρ c 4).trans (arr20_2 m ρ c)
  have e : W5 m ρ c (Proc.devRef .tc main_v22) = transpose S8x100x4 [0, 2, 1] (extractStridedSlice S8x4x100 ![0, 0, 0]
      (fun y => outB m c (y 0) (y 1) (y 2) : Vec Ideal S8x4x128 .f32) slices_S8x4x128_S8x4x100_0_0_0) transposes_S8x4x100_S8x100x4_0_2_1 := by
    rw [← h]
    (simp only [W5]; after_reads_simp) <;> rfl
  refine (congrFun e _).trans ?_
  refine Eq.trans (b := (fun y => outB m c (y 0) (y 1) (y 2) : Vec Ideal S8x4x128 .f32) (ix3 b a (k.castLE (by decide)))) ?_ rfl
  generalize (fun y => outB m c (y 0) (y 1) (y 2) : Vec Ideal S8x4x128 .f32) = z
  pointwise []
  rfl

theorem v24_at (b : Fin 8) (k : Fin 100) : W5 m ρ c (Proc.devRef .tc main_v24) (ix2 b k) = outS m c b (k.castLE (by decide)) := by
  have h : W4 m ρ c (Proc.devRef .tc main_v20_0) = (fun y => outS m c (y 0) (y 2) : Vec Ideal S8x1x128 .f32) := (W4_arr m ρ c 2).trans (arr20_0 m ρ c)
  have e : W5 m ρ c (Proc.devRef .tc main_v24) = shapeCast S8x100 (extractStridedSlice S8x1x100 ![0, 0, 0]
      (fun y => outS m c (y 0) (y 2) : Vec Ideal S8x1x128 .f32) slices_S8x1x128_S8x1x100_0_0_0) shapeCasts_S8x1x100_S8x100 := by
    rw [← h]
    (simp only [W5]; after_reads_simp) <;> rfl
  refine (congrFun e _).trans ?_
  refine Eq.trans (b := (fun y => outS m c (y 0) (y 2) : Vec Ideal S8x1x128 .f32) (ix3 b 0 (k.castLE (by decide)))) ?_ rfl
  generalize (fun y => outS m c (y 0) (y 2) : Vec Ideal S8x1x128 .f32) = z
  pointwise []
  rfl

theorem v26_at (b : Fin 8) (k : Fin 100) : W5 m ρ c (Proc.devRef .tc main_v26) (ix2 b k) = outC m c b (k.castLE (by decide)) := by
  have h : W4 m ρ c (Proc.devRef .tc main_v20_1) = (fun y => outC m c (y 0) (y 2) : Vec Ideal S8x1x128 .f32) := (W4_arr m ρ c 3).trans (arr20_1 m ρ c)
  have e : W5 m ρ c (Proc.devRef .tc main_v26) = shapeCast S8x100 (extractStridedSlice S8x1x100 ![0, 0, 0]
      (fun y => outC m c (y 0) (y 2) : Vec Ideal S8x1x128 .f32) slices_S8x1x128_S8x1x100_0_0_0) shapeCasts_S8x1x100_S8x100 := by
    rw [← h]
    (simp only [W5]; after_reads_simp) <;> rfl
  refine (congrFun e _).trans ?_
  refine Eq.trans (b := (fun y => outC m c (y 0) (y 2) : Vec Ideal S8x1x128 .f32) (ix3 b 0 (k.castLE (by decide)))) ?_ rfl
  generalize (fun y => outC m c (y 0) (y 2) : Vec Ideal S8x1x128 .f32) = z
  pointwise []
  rfl

theorem v27_at (b : Fin 8) : W5 m ρ c (Proc.devRef .tc main_v27) (ix1 b) = outN m c b := by
  have h : W4 m ρ c (Proc.devRef .tc main_v20_3) = (fun y => outN m c (y 0) : Vec Ideal S8x1x1 .i32) := (W4_arr m ρ c 5).trans (arr20_3 m ρ c)
  have e : W5 m ρ c (Proc.devRef .tc main_v27) = shapeCast S8 (fun y => outN m c (y 0) : Vec Ideal S8x1x1 .i32) shapeCasts_S8x1x1_S8 := by
    rw [← h]
    (simp only [W5]; after_reads_simp) <;> rfl
  refine (congrFun e _).trans ?_
  refine Eq.trans (b := (fun y => outN m c (y 0) : Vec Ideal S8x1x1 .i32) (ix3 b 0 0)) ?_ rfl
  generalize (fun y => outN m c (y 0) : Vec Ideal S8x1x1 .i32) = z
  pointwise []

end Cert.KernelIdeal.Nms

end
-- ==== Proof.Nms.Value.ROut.lean ====
/- The reference's results, read at an index from the slots the loop leaves. -/
module

public import proofs.«01_k».proof.Proof.Nms.Value.RRun

@[expose] public section

set_option maxRecDepth 16384

noncomputable section

namespace Cert.ReferenceIdeal.Nms

open Cert.ReferenceIdeal.Value
open Idealize.ShloMosaic Cert.ReferenceIdeal.Facts₀

/-- All the slots of an image in one row. -/
abbrev flat (V : Val) : Vec Ideal S8x8000 .f32 := shapeCast S8x8000 (vO V) shapeCasts_S8x80x100_S8x8000

theorem flat_read (V : Val) (b : Fin 8) (n : Fin 8000) :
    flat V (ix2 b n) = vO V (ix3 b ⟨n.val / 100, by omega⟩ ⟨n.val % 100, by omega⟩) := by
  pointwise []

theorem flatB_read (V : Val) (b : Fin 8) (n : Fin 8000) (d : Fin 4) :
    (shapeCast S8x8000x4 (vB V) shapeCasts_S8x80x100x4_S8x8000x4) (ix3 b n d)
      = vB V (ix4 b ⟨n.val / 100, by omega⟩ ⟨n.val % 100, by omega⟩ d) := by
  pointwise []

/-- The slot the `k`-th greatest score stands in. -/
def slot (V : Val) (b : Fin 8) (k : Fin 100) : Fin 8000 := _root_.Nms.srt (fun n => flat V (ix2 b n)) (k.castLE (by decide))

abbrev topS (V : Val) : Vec Ideal S8x100 .f32 :=
  (Host.topK S8x100 1 _root_.Nms.gt (flat V) sliceFits_S8x8000_S8x100).1
abbrev topW (V : Val) : Vec Ideal S8x100 .i32 :=
  (Host.topK S8x100 1 _root_.Nms.gt (flat V) sliceFits_S8x8000_S8x100).2

theorem topS_read (V : Val) (b : Fin 8) (k : Fin 100) : topS V (ix2 b k) = flat V (ix2 b (slot V b k)) :=
  (_root_.Nms.topK2 (N := 8000) (by decide) (flat V) sliceFits_S8x8000_S8x100 b k).1

theorem topW_read (V : Val) (b : Fin 8) (k : Fin 100) : topW V (ix2 b k) = BitVec.ofNat 32 (slot V b k).val :=
  (_root_.Nms.topK2 (N := 8000) (by decide) (flat V) sliceFits_S8x8000_S8x100 b k).2

theorem mask2 (T g : FVec Ideal S8x100 .f32) (b : Fin 8) (k : Fin 100) :
    select (cmpf .ogt T (broadcastInDim S8x100 ![] bcast_S_S8x100 (constant S_ .f32 0x00000000#32))) g
      (broadcastInDim S8x100 ![] bcast_S_S8x100 (constant (F := Ideal) S_ .f32 0x00000000#32)) (ix2 b k)
      = if 0 < T (ix2 b k) then g (ix2 b k) else 0 := by
  pointwise []

theorem mask3 (T : FVec Ideal S8x100 .f32) (g : FVec Ideal S8x100x4 .f32) (b : Fin 8) (k : Fin 100) (d : Fin 4) :
    select (broadcastInDim S8x100x4 ![0, 1, 2] bcast_S8x100x1_S8x100x4_0_1_2 (broadcastInDim S8x100x1 ![0, 1] bcast_S8x100_S8x100x1_0_1
      (cmpf .ogt T (broadcastInDim S8x100 ![] bcast_S_S8x100 (constant S_ .f32 0x00000000#32))))) g
      (broadcastInDim S8x100x4 ![] bcast_S_S8x100x4 (constant (F := Ideal) S_ .f32 0x00000000#32)) (ix3 b k d)
      = if 0 < T (ix2 b k) then g (ix3 b k d) else 0 := by
  pointwise []

theorem scores_read (V : Val) (b : Fin 8) (k : Fin 100) :
    (out_main_v35 V : Vec Ideal S8x100 .f32) (ix2 b k) = if 0 < topS V (ix2 b k) then topS V (ix2 b k) else 0 :=
  mask2 (topS V) (topS V) b k

theorem index_read (V : Val) (b : Fin 8) (k : Fin 100) :
    clampRow 8000 (by decide) (broadcastInDim S8x100x1 ![0, 1] bcast_S8x100_S8x100x1_0_1 (topW V) (ix3 b k 0)) = slot V b k := by
  have h : broadcastInDim S8x100x1 ![0, 1] bcast_S8x100_S8x100x1_0_1 (topW V) (ix3 b k 0) = topW V (ix2 b k) := by
    generalize topW V = W
    pointwise []
  rw [h, topW_read, clampRow_ofNat _ (by decide)]

theorem boxes_read (V : Val) (b : Fin 8) (k : Fin 100) (d : Fin 4) :
    (out_main_v37 V : Vec Ideal S8x100x4 .f32) (ix3 b k d)
      = if 0 < topS V (ix2 b k) then vB V (ix4 b ⟨(slot V b k).val / 100, by omega⟩ ⟨(slot V b k).val % 100, by omega⟩ d) else 0 := by
  refine (mask3 (topS V) _ b k d).trans (if_congr Iff.rfl ?_ rfl)
  refine (gather_flat _ _ b k d).trans ?_
  rw [index_read, flatB_read]

theorem number_read (b : Fin 8) (n : Fin 8000) :
    shapeCast S8x8000 (broadcastInDim S8x80x100 ![1, 2] bcast_S80x1_S8x80x100_1_2 (broadcastInDim S80x1 ![0] bcast_S80_S80x1_0
      (sitofp .f32 (iotaInDim S80 32 0)))) shapeCasts_S8x80x100_S8x8000 (ix2 b n)
      = FloatOps.sitofp (F := Ideal) .f32 (BitVec.ofNat 32 (n.val / 100)) := by
  pointwise []

theorem classes_read (V : Val) (b : Fin 8) (k : Fin 100) :
    (out_main_v38 V : Vec Ideal S8x100 .f32) (ix2 b k)
      = if 0 < topS V (ix2 b k) then FloatOps.sitofp (F := Ideal) .f32 (BitVec.ofNat 32 ((slot V b k).val / 100)) else 0 := by
  refine (mask2 (topS V) _ b k).trans (if_congr Iff.rfl ?_ rfl)
  refine (gather_class _ _ b k).trans ?_
  rw [index_read, number_read]

theorem mask_read (T : FVec Ideal S8x100 .f32) (b : Fin 8) (k : Fin 100) :
    extui 32 (cmpf .ogt T (broadcastInDim S8x100 ![] bcast_S_S8x100 (constant S_ .f32 0x00000000#32))) natLt_1_32 (ix2 b k)
      = BitVec.setWidth 32 (BitVec.ofBool (decide (0 < T (ix2 b k)))) := by
  pointwise []

theorem red1 : S8x100.Reduces [1] S8 := by decide

/-- How many of the results are positive, as a word. -/
theorem count_read (V : Val) (b : Fin 8) :
    (out_main_v40 V : Vec Ideal S8 .i32) (ix1 b)
      = Finset.fold IntOp.addi 0#32 (fun k : Fin 100 => BitVec.setWidth 32 (BitVec.ofBool (decide (0 < topS V (ix2 b k))))) Finset.univ := by
  refine (Host.reduce_eq_fold_single IntOp.addi _ _ _ red1 _ (ix1 b)).trans ?_
  refine congrArg (fun f => Finset.fold IntOp.addi 0#32 f Finset.univ) (funext fun k => ?_)
  have hl : red1.lift (ix1 b) k = ix2 b k := by
    funext a
    fin_cases a <;> rfl
  simp only [Function.comp]
  rw [hl]
  exact mask_read (topS V) b k

end Cert.ReferenceIdeal.Nms

end
-- ==== Proof.Nms.Value.PreRead.lean ====
/- The precondition, read as facts about the greatest scores of every class. -/
module

public import proofs.«01_k».proof.Pre_distinct_scores
public import proofs.«01_k».proof.Proof.Gen.Pre_distinct_scores
public import proofs.«01_k».proof.Proof.Nms.Value.RIn

@[expose] public section

set_option maxRecDepth 65536

noncomputable section

namespace Cert.Pre_distinct_scores.Nms

open Cert.Pre_distinct_scores
open Idealize.ShloMosaic Idealize.ShloMosaic.TcCoe
open Cert.Pre_distinct_scores.Facts

variable [Cert.Pre_distinct_scores.Facts]

theorem ori_one (a b : BitVec 1) (h : IntOp.ori a b = 1#1) : a = 1#1 ∨ b = 1#1 := by
  revert a b
  decide

theorem parts (u : IVec S8x15999 1) (v w : IVec S8x80 1)
    (h : concatenate S8x16159 1 [⟨S8x15999, u⟩, ⟨S8x80, v⟩, ⟨S8x80, w⟩] concatenates_S8x15999_S8x80_S8x80_S8x16159_d1 = fun _ => 1#1) :
    (∀ b k, u (ix2 b k) = 1#1) ∧ (∀ b d, v (ix2 b d) = 1#1) ∧ (∀ b d, w (ix2 b d) = 1#1) := by
  refine ⟨fun b k => ?_, fun b d => ?_, fun b d => ?_⟩
  · refine Eq.trans ?_ (congrFun h (ix2 b ⟨k.val, by omega⟩))
    pointwise []
  · refine Eq.trans ?_ (congrFun h (ix2 b ⟨15999 + d.val, by omega⟩))
    pointwise []
  · refine Eq.trans ?_ (congrFun h (ix2 b ⟨16079 + d.val, by omega⟩))
    pointwise []
    rw [dif_neg (by omega), dif_neg (by omega)]
    exact congrArg (fun i => w (ix2 b i)) (Fin.ext (by show d.val = 16079 + d.val - 15999 - 80; omega))

/-- The 201 greatest scores of every class, the first 200 of them in one row, and the three tests. -/
def tops (A : FVec Ideal S8x80x16128 .f32) : FVec Ideal S8x80x201 .f32 := (Host.topK S8x80x201 2 _root_.Nms.gt A sliceFits_S8x80x16128_S8x80x201).1
def flat (A : FVec Ideal S8x80x16128 .f32) : FVec Ideal S8x16000 .f32 := shapeCast S8x16000 (extractStridedSlice S8x80x200 ![0, 0, 0] (tops A) slices_S8x80x201_S8x80x200_0_0_0) shapeCasts_S8x80x200_S8x16000
def last (A : FVec Ideal S8x80x16128 .f32) : FVec Ideal S8x80 .f32 := shapeCast S8x80 (extractStridedSlice S8x80x1 ![0, 0, 199] (tops A) slices_S8x80x201_S8x80x1_0_0_199) shapeCasts_S8x80x1_S8x80
def next (A : FVec Ideal S8x80x16128 .f32) : FVec Ideal S8x80 .f32 := shapeCast S8x80 (extractStridedSlice S8x80x1 ![0, 0, 200] (tops A) slices_S8x80x201_S8x80x1_0_0_200) shapeCasts_S8x80x1_S8x80
def sorted (A : FVec Ideal S8x80x16128 .f32) : FVec Ideal S8x16000 .f32 := (Host.topK S8x16000 1 _root_.Nms.gt (flat A) sliceFits_S8x16000_S8x16000).1
def test1 (s : FVec Ideal S8x16000 .f32) : IVec S8x15999 1 :=
  ori (cmpf .ogt (extractStridedSlice S8x15999 ![0, 0] s slices_S8x16000_S8x15999_0_0) (extractStridedSlice S8x15999 ![0, 1] s slices_S8x16000_S8x15999_0_1))
    (cmpf .ole (extractStridedSlice S8x15999 ![0, 1] s slices_S8x16000_S8x15999_0_1) (broadcastInDim S8x15999 ![] bcast_S_S8x15999 (constant S_ .f32 0x3E800000#32)))
def test2 (v w : FVec Ideal S8x80 .f32) : IVec S8x80 1 :=
  ori (cmpf .oge (subf v w) (broadcastInDim S8x80 ![] bcast_S_S8x80 (constant S_ .f32 0x27000000#32)))
    (cmpf .ole w (broadcastInDim S8x80 ![] bcast_S_S8x80 (constant S_ .f32 0x3E800000#32)))
def test3 (v : FVec Ideal S8x80 .f32) : IVec S8x80 1 := cmpf .olt v (broadcastInDim S8x80 ![] bcast_S_S8x80 (constant S_ .f32 0x3FC00000#32))

theorem fn_eq (x0 : FVec Ideal S8x64x64x3x4 .f32) (x1 : FVec Ideal S8x64x64x3x1 .f32) (x2 : FVec Ideal S8x64x64x3x80 .f32)
    (x3 : FVec Ideal S8x32x32x3x4 .f32) (x4 : FVec Ideal S8x32x32x3x1 .f32) (x5 : FVec Ideal S8x32x32x3x80 .f32)
    (x6 : FVec Ideal S8x16x16x3x4 .f32) (x7 : FVec Ideal S8x16x16x3x1 .f32) (x8 : FVec Ideal S8x16x16x3x80 .f32)
    (A : FVec Ideal S8x80x16128 .f32)
    (hA : A = Cert.ReferenceIdeal.Nms.above (Cert.ReferenceIdeal.Nms.prods (Cert.ReferenceIdeal.Nms.conf x1 x4 x7) (Cert.ReferenceIdeal.Nms.classes x2 x5 x8))) :
    fn (F := Ideal) x0 x1 x2 x3 x4 x5 x6 x7 x8 = concatenate S8x16159 1 [⟨S8x15999, test1 (sorted A)⟩, ⟨S8x80, test2 (last A) (next A)⟩, ⟨S8x80, test3 (last A)⟩]
      concatenates_S8x15999_S8x80_S8x80_S8x16159_d1 := by
  subst hA
  rfl

theorem test1_at (s : FVec Ideal S8x16000 .f32) (b : Fin 8) (k : Fin 15999) (h : test1 s (ix2 b k) = 1#1) :
    s (ix2 b ⟨k.val + 1, by omega⟩) < s (ix2 b ⟨k.val, by omega⟩) ∨ s (ix2 b ⟨k.val + 1, by omega⟩) ≤ _root_.Nms.thr := by
  have e : test1 s (ix2 b k) = IntOp.ori (BitVec.ofBool (decide (s (ix2 b ⟨k.val + 1, by omega⟩) < s (ix2 b ⟨k.val, by omega⟩)))) (BitVec.ofBool (decide (s (ix2 b ⟨k.val + 1, by omega⟩) ≤ _root_.Nms.thr))) := by
    have e1 : (⟨k.val + 1, by omega⟩ : Fin 16000) = ⟨1 + k.val, by omega⟩ := Fin.ext (add_comm _ _)
    rw [e1]
    unfold test1
    pointwise []
  rw [e] at h
  rcases ori_one _ _ h with h | h
  · refine .inl (by_contra fun hn => ?_)
    rw [decide_eq_false hn] at h
    exact absurd h (by decide)
  · refine .inr (by_contra fun hn => ?_)
    rw [decide_eq_false hn] at h
    exact absurd h (by decide)

theorem test2_at (v w : FVec Ideal S8x80 .f32) (b : Fin 8) (d : Fin 80) (h : test2 v w (ix2 b d) = 1#1) :
    Ideal.ofBits .f32 654311424#32 ≤ v (ix2 b d) - w (ix2 b d) ∨ w (ix2 b d) ≤ _root_.Nms.thr := by
  have e : test2 v w (ix2 b d) = IntOp.ori (BitVec.ofBool (decide (Ideal.ofBits .f32 654311424#32 ≤ v (ix2 b d) - w (ix2 b d)))) (BitVec.ofBool (decide (w (ix2 b d) ≤ _root_.Nms.thr))) := by
    unfold test2
    pointwise []
  rw [e] at h
  rcases ori_one _ _ h with h | h
  · refine .inl (by_contra fun hn => ?_)
    rw [decide_eq_false hn] at h
    exact absurd h (by decide)
  · refine .inr (by_contra fun hn => ?_)
    rw [decide_eq_false hn] at h
    exact absurd h (by decide)

theorem test3_at (v : FVec Ideal S8x80 .f32) (b : Fin 8) (d : Fin 80) (h : test3 v (ix2 b d) = 1#1) :
    v (ix2 b d) < Ideal.ofBits .f32 1069547520#32 := by
  have e : test3 v (ix2 b d) = BitVec.ofBool (decide (v (ix2 b d) < Ideal.ofBits .f32 1069547520#32)) := by
    unfold test3
    pointwise []
  rw [e] at h
  refine by_contra fun hn => ?_
  rw [decide_eq_false hn] at h
  exact absurd h (by decide)

/-- The `k`-th greatest score of a class. -/
def top (A : FVec Ideal S8x80x16128 .f32) (b : Fin 8) (d : Fin 80) (k : Fin 201) : EReal :=
  A (ix3 b d (_root_.Nms.srt (fun n => A (ix3 b d n)) (k.castLE (by decide))))

theorem tops_at (A : FVec Ideal S8x80x16128 .f32) (b : Fin 8) (d : Fin 80) (k : Fin 201) : tops A (ix3 b d k) = top A b d k :=
  (_root_.Nms.topK3 (by decide) A _ b d k).1

theorem last_at (A : FVec Ideal S8x80x16128 .f32) (b : Fin 8) (d : Fin 80) : last A (ix2 b d) = top A b d 199 := by
  rw [← tops_at]
  unfold last
  generalize tops A = z
  pointwise []

theorem next_at (A : FVec Ideal S8x80x16128 .f32) (b : Fin 8) (d : Fin 80) : next A (ix2 b d) = top A b d 200 := by
  rw [← tops_at]
  unfold next
  generalize tops A = z
  pointwise []

theorem flat_at (A : FVec Ideal S8x80x16128 .f32) (b : Fin 8) (d : Fin 80) (k : Fin 200) :
    flat A (ix2 b ⟨d.val * 200 + k.val, by omega⟩) = top A b d (k.castLE (by decide)) := by
  rw [← tops_at]
  unfold flat
  generalize tops A = z
  pointwise []
  rfl

/-- Two different entries of the row of greatest scores that are above the threshold differ. -/
theorem flat_ne (A : FVec Ideal S8x80x16128 .f32) (b : Fin 8) (h : ∀ k, test1 (sorted A) (ix2 b k) = 1#1) (i j : Fin 16000) (hij : i ≠ j)
    (hi : _root_.Nms.thr < flat A (ix2 b i)) (hj : _root_.Nms.thr < flat A (ix2 b j)) : flat A (ix2 b i) ≠ flat A (ix2 b j) := by
  set x : Fin 16000 → EReal := fun n => flat A (ix2 b n) with hx
  have hs : ∀ k : Fin 16000, sorted A (ix2 b k) = x (_root_.Nms.srt x k) := fun k => (_root_.Nms.topK2 (le_refl _) (flat A) _ b k).1
  have hstep : ∀ k (hk : k + 1 < 16000), x (_root_.Nms.srt x ⟨k + 1, hk⟩) < x (_root_.Nms.srt x ⟨k, by omega⟩) ∨ x (_root_.Nms.srt x ⟨k + 1, hk⟩) ≤ _root_.Nms.thr := by
    intro k hk
    have := test1_at (sorted A) b ⟨k, by omega⟩ (h _)
    rwa [hs, hs] at this
  have hlt : ∀ k k' : Fin 16000, k < k' → _root_.Nms.thr < x (_root_.Nms.srt x k') → x (_root_.Nms.srt x k') < x (_root_.Nms.srt x k) := by
    intro k k' hkk hp
    obtain ⟨p, hp'⟩ : ∃ p, k'.val = p + 1 := ⟨k'.val - 1, by have : k.val < k'.val := hkk; omega⟩
    obtain ⟨kv, hkv⟩ := k'
    obtain rfl : kv = p + 1 := hp'
    rcases hstep p (by omega) with h1 | h1
    · exact h1.trans_le (_root_.Nms.srt_anti x k ⟨p, by omega⟩ (Fin.le_def.mpr (by have : k.val < p + 1 := hkk; show k.val ≤ p; omega)))
    · exact absurd h1 (not_le.mpr hp)
  obtain ⟨k, rfl⟩ := _root_.Nms.srt_surjective x i
  obtain ⟨k', rfl⟩ := _root_.Nms.srt_surjective x j
  intro he
  rcases lt_trichotomy k k' with hk | rfl | hk
  · exact absurd (hlt k k' hk hj) (by show ¬ (flat A _ < flat A _); rw [he]; exact lt_irrefl _)
  · exact hij rfl
  · exact absurd (hlt k' k hk hi) (by show ¬ (flat A _ < flat A _); rw [he]; exact lt_irrefl _)

end Cert.Pre_distinct_scores.Nms

end
-- ==== Proof.Nms.Value.Meet.lean ====
/- The kernel's results are the reference's, entry by entry, where the precondition holds. -/
module

public import proofs.«01_k».proof.Proof.Nms.Value.Match
public import proofs.«01_k».proof.Proof.Nms.Value.KFin
public import proofs.«01_k».proof.Proof.Nms.Value.RIn
public import proofs.«01_k».proof.Proof.Nms.Value.ROut
public import proofs.«01_k».proof.Proof.Nms.Value.PreRead

@[expose] public section

set_option maxRecDepth 65536

noncomputable section

namespace Cert.Nms

open Idealize.ShloMosaic Idealize.ShloMosaic.TcCoe Idealize.ShloMosaic.StableHlo
open Cert.ReferenceIdeal.Nms (scoresIn boxesIn scoreRow best chosen cand vS vO vB at' fresh kRun)
open Cert.KernelIdeal.Nms (nth cell kth mg selS selB posn)
open Cert.KernelIdeal (S80x128 S126x128)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two memories hold the same boxes and scores at a device. -/
structure Same : Prop where
  box : Cert.KernelIdeal.Nms.boxesK m c = boxesIn m' c
  img : ∀ (b : Fin 8) (d : Fin 80) (r : Fin 126) (l : Fin 128), Cert.KernelIdeal.Nms.imgK m c b d (ix2 r l) = scoreRow m' c b d (posn r l)

/-- What the precondition says of the reference's scores. -/
structure Apart : Prop where
  ne : ∀ (b : Fin 8) (d d' : Fin 80) (k k' : Fin 200), _root_.Nms.thr < scoreRow m' c b d (nth (scoreRow m' c b d) k) →
    scoreRow m' c b d (nth (scoreRow m' c b d) k) = scoreRow m' c b d' (nth (scoreRow m' c b d') k') → d = d' ∧ k = k'
  gap : ∀ (b : Fin 8) (d : Fin 80), Ideal.ofBits .f32 654311424#32 ≤ scoreRow m' c b d (_root_.Nms.srt (scoreRow m' c b d) 199) - scoreRow m' c b d (_root_.Nms.srt (scoreRow m' c b d) 200)
    ∨ scoreRow m' c b d (_root_.Nms.srt (scoreRow m' c b d) 200) ≤ _root_.Nms.thr
  lt : ∀ (b : Fin 8) (d : Fin 80), scoreRow m' c b d (_root_.Nms.srt (scoreRow m' c b d) 199) < Ideal.ofBits .f32 1069547520#32

/-- The reference's state before and after its loop. -/
abbrev start : Valuation Cert.ReferenceIdeal.τ Cert.ReferenceIdeal.sig (Elt Ideal) := entryContents (Cert.ReferenceIdeal.Value.preI (F := Ideal)) m' c
abbrev done : Valuation Cert.ReferenceIdeal.τ Cert.ReferenceIdeal.sig (Elt Ideal) := at' (start m' c) 100

theorem score_or (b : Fin 8) (d : Fin 80) (n : Fin 16128) : scoreRow m' c b d n = _root_.Nms.neg1 ∨ _root_.Nms.thr < scoreRow m' c b d n := by
  unfold scoreRow scoresIn
  rw [Cert.ReferenceIdeal.Nms.above_at]
  by_cases h : _root_.Nms.thr < Cert.ReferenceIdeal.Nms.prods (Cert.ReferenceIdeal.Nms.conf (m' (c, Proc.devRef .tc Cert.ReferenceIdeal.main_arg1)) (m' (c, Proc.devRef .tc Cert.ReferenceIdeal.main_arg4)) (m' (c, Proc.devRef .tc Cert.ReferenceIdeal.main_arg7)))
    (Cert.ReferenceIdeal.Nms.classes (m' (c, Proc.devRef .tc Cert.ReferenceIdeal.main_arg2)) (m' (c, Proc.devRef .tc Cert.ReferenceIdeal.main_arg5)) (m' (c, Proc.devRef .tc Cert.ReferenceIdeal.main_arg8))) (ix3 b d n)
  · rw [if_pos h]; exact .inr h
  · rw [if_neg h]; exact .inl rfl

theorem score_thr (b : Fin 8) (d : Fin 80) (n : Fin 16128) (h : 0 < scoreRow m' c b d n) : _root_.Nms.thr < scoreRow m' c b d n := by
  rcases score_or m' c b d n with h' | h'
  · rw [h'] at h
    exact absurd (h.trans _root_.Nms.neg1_neg) (lt_irrefl _)
  · exact h'

theorem left_zero (b : Fin 8) (d : Fin 80) : Cert.ReferenceIdeal.Nms.left (start m' c) b d 0 = fun k => scoreRow m' c b d (nth (scoreRow m' c b d) k) :=
  funext fun k => Cert.ReferenceIdeal.Nms.vS_at m' c b d k

theorem cand_nth (b : Fin 8) (d : Fin 80) : cand (start m' c) b d = fun k a => boxesIn m' c (ix3 b (nth (scoreRow m' c b d) k) a) :=
  funext fun k => funext fun a => Cert.ReferenceIdeal.Nms.cand_in m' c b d k a

theorem num : Cert.ReferenceIdeal.Nms.Num (start m' c) := (fresh m' c).num

variable {m m' c} (hm : Same m m' c) (ha : Apart m' c)
include hm ha

/-- One class's selections. -/
theorem class_meet (b : Fin 8) (d : Fin 80) (t : ℕ) :
    Cert.KernelIdeal.Nms.smax (Cert.KernelIdeal.Nms.leftAt (fun a => Cert.KernelIdeal.Nms.boxK m c b a) (Cert.KernelIdeal.Nms.keptK m c b d) t) = best (start m' c) b d t ∧
    (0 < best (start m' c) b d t → Cert.KernelIdeal.Nms.hotBox (fun a => Cert.KernelIdeal.Nms.boxK m c b a) (Cert.KernelIdeal.Nms.leftAt (fun a => Cert.KernelIdeal.Nms.boxK m c b a) (Cert.KernelIdeal.Nms.keptK m c b d) t)
      = cand (start m' c) b d (chosen (start m' c) b d t)) := by
  have hk := kRun (start m' c) (num m' c) b d
  have hc := cand_nth m' c b d
  rw [hc] at hk
  have h := Cert.KernelIdeal.Nms.class_match (row := scoreRow m' c b d) (fun a => Cert.KernelIdeal.Nms.boxK m c b a) (Cert.KernelIdeal.Nms.imgK m c b d)
    (fun n a => boxesIn m' c (ix3 b n a)) (fun p => hm.img b d p.1 p.2) (fun p => by rw [← hm.box]; rfl)
    (score_or m' c b d) (ha.gap b d) (ha.lt b d)
    (fun k k' hp he => (ha.ne b d d k k' (score_thr m' c b d _ hp) he).2) hk (left_zero m' c b d) t
  rw [hc]
  exact h

theorem selS_at (b : Fin 8) (d : Fin 80) (j : Fin 100) (l : Fin 128) (hl : l.val = j.val) :
    mg (selS m c b) (d, l) = vO (done m' c) (ix3 b d j) := by
  have h := (Cert.KernelIdeal.Nms.class_end (fun a => Cert.KernelIdeal.Nms.boxK m c b a) (Cert.KernelIdeal.Nms.keptK m c b d)).score l
  refine Eq.trans h ?_
  rw [Cert.ReferenceIdeal.Nms.out_at (fresh m' c) b d j 100 le_rfl]
  unfold Cert.KernelIdeal.Nms.laneAt
  rw [hl]
  beta_reduce
  rw [(class_meet hm ha b d j.val).1]

theorem selB_at (b : Fin 8) (d : Fin 80) (j : Fin 100) (l : Fin 128) (hl : l.val = j.val) (a : Fin 4) :
    mg (selB m c b a) (d, l) = vB (done m' c) (ix4 b d j a) := by
  have h := Cert.KernelIdeal.Nms.class_end (fun a => Cert.KernelIdeal.Nms.boxK m c b a) (Cert.KernelIdeal.Nms.keptK m c b d)
  have e : mg (selB m c b a) (d, l) = Cert.KernelIdeal.Nms.laneAt (fun a => Cert.KernelIdeal.Nms.boxK m c b a) (Cert.KernelIdeal.Nms.keptK m c b d)
      (fun t => Cert.KernelIdeal.Nms.hotBox (fun a => Cert.KernelIdeal.Nms.boxK m c b a) (Cert.KernelIdeal.Nms.leftAt (fun a => Cert.KernelIdeal.Nms.boxK m c b a) (Cert.KernelIdeal.Nms.keptK m c b d) t) a) 100 l := by
    fin_cases a
    · exact h.box0 l
    · exact h.box1 l
    · exact h.box2 l
    · exact h.box3 l
  refine e.trans ?_
  rw [Cert.ReferenceIdeal.Nms.box_out (fresh m' c) b d j a 100 le_rfl]
  unfold Cert.KernelIdeal.Nms.laneAt
  rw [hl, (class_meet hm ha b d j.val).1]
  refine if_congr Iff.rfl ?_ rfl
  by_cases hp : 0 < best (start m' c) b d j.val
  · rw [if_pos hp, if_pos hp]
    exact congrFun ((class_meet hm ha b d j.val).2 hp) a
  · rw [if_neg hp, if_neg hp]

omit ha in
theorem selS_off (b : Fin 8) (q : Cert.KernelIdeal.Nms.Q) (h : 100 ≤ q.2.val) : mg (selS m c b) q = 0 := by
  have h' := (Cert.KernelIdeal.Nms.class_end (fun a => Cert.KernelIdeal.Nms.boxK m c b a) (Cert.KernelIdeal.Nms.keptK m c b q.1)).score q.2
  refine Eq.trans h' ?_
  unfold Cert.KernelIdeal.Nms.laneAt
  rw [if_neg (by omega)]

omit hm ha in
theorem out_best (b : Fin 8) (d : Fin 80) (j : Fin 100) : vO (done m' c) (ix3 b d j) = if 0 < best (start m' c) b d j.val then best (start m' c) b d j.val else 0 := by
  rw [Cert.ReferenceIdeal.Nms.out_at (fresh m' c) b d j 100 le_rfl, if_pos j.2]

omit hm ha in
theorem out_nonneg (b : Fin 8) (d : Fin 80) (j : Fin 100) : 0 ≤ vO (done m' c) (ix3 b d j) := by
  rw [out_best]
  by_cases h : 0 < best (start m' c) b d j.val
  · rw [if_pos h]; exact h.le
  · rw [if_neg h]

omit hm in
/-- No positive result of the selections occurs twice. -/
theorem out_inj (b : Fin 8) (d d' : Fin 80) (j j' : Fin 100) (hp : 0 < vO (done m' c) (ix3 b d j))
    (he : vO (done m' c) (ix3 b d j) = vO (done m' c) (ix3 b d' j')) : d = d' ∧ j = j' := by
  have hpos : ∀ (d : Fin 80) (j : Fin 100), 0 < vO (done m' c) (ix3 b d j) →
      0 < best (start m' c) b d j.val ∧ vO (done m' c) (ix3 b d j) = best (start m' c) b d j.val := fun d j h => by
    rw [out_best] at h ⊢
    by_cases h' : 0 < best (start m' c) b d j.val
    · exact ⟨h', if_pos h'⟩
    · rw [if_neg h'] at h
      exact absurd h (lt_irrefl _)
  obtain ⟨h1, e1⟩ := hpos d j hp
  obtain ⟨h2, e2⟩ := hpos d' j' (he ▸ hp)
  have t1 := (kRun (start m' c) (num m' c) b d).m_top _root_.Nms.neg1_neg (left_zero m' c b d) j.val h1
  have t2 := (kRun (start m' c) (num m' c) b d').m_top _root_.Nms.neg1_neg (left_zero m' c b d') j'.val h2
  have hthr := score_thr m' c b d _ (t1 ▸ h1)
  obtain ⟨rfl, hsel⟩ := ha.ne b d d' _ _ hthr (by rw [← t1, ← t2, ← e1, ← e2, he])
  exact ⟨rfl, Fin.ext ((kRun (start m' c) (num m' c) b d).sel_inj _root_.Nms.neg1_neg h1 h2 hsel)⟩

/-- The reference's flat row of selected scores. -/
abbrev row (m' : (ℓ : Loc Cert.ReferenceIdeal.nD Cert.ReferenceIdeal.τ Cert.ReferenceIdeal.sig) → Buf (Elt Ideal) ℓ) (c : Dev Cert.KernelIdeal.nD) (b : Fin 8) (n : Fin 8000) : EReal :=
  Cert.ReferenceIdeal.Nms.flat (done m' c) (ix2 b n)

theorem row_cell (b : Fin 8) (n : Fin 8000) : mg (selS m c b) (cell n) = row m' c b n :=
  (selS_at hm ha b _ ⟨n.val % 100, by omega⟩ _ rfl).trans (Cert.ReferenceIdeal.Nms.flat_read (done m' c) b n).symm

omit hm ha in
theorem row_nonneg (b : Fin 8) (n : Fin 8000) : 0 ≤ row m' c b n := by
  rw [row, Cert.ReferenceIdeal.Nms.flat_read]
  exact out_nonneg b _ _

omit hm in
theorem row_inj (b : Fin 8) (n n' : Fin 8000) (hp : 0 < row m' c b n) (he : row m' c b n = row m' c b n') : n = n' := by
  rw [row, Cert.ReferenceIdeal.Nms.flat_read] at hp he
  rw [row, Cert.ReferenceIdeal.Nms.flat_read] at he
  obtain ⟨h1, h2⟩ := out_inj ha b _ _ _ _ hp he
  have e1 := congrArg Fin.val h1
  have e2 := congrArg Fin.val h2
  simp only at e1 e2
  exact Fin.ext (by omega)

theorem merge_meet (b : Fin 8) (k : Fin 100) :
    (0 < Cert.KernelIdeal.Gen.k1_pay16 (Cert.KernelIdeal.Nms.mleft (selS m c b) k.val) ↔ 0 < row m' c b (kth (row m' c b) k)) ∧
    (0 < row m' c b (kth (row m' c b) k) → Cert.KernelIdeal.Gen.k1_pay16 (Cert.KernelIdeal.Nms.mleft (selS m c b) k.val) = row m' c b (kth (row m' c b) k) ∧
      ∀ y, Cert.KernelIdeal.Nms.mread (selS m c b) y k.val = mg y (cell (kth (row m' c b) k))) :=
  Cert.KernelIdeal.Nms.merge_match (row_cell hm ha b) (selS_off hm b) (row_nonneg b) (row_inj ha b) k

theorem top_row (b : Fin 8) (k : Fin 100) : Cert.ReferenceIdeal.Nms.topS (done m' c) (ix2 b k) = row m' c b (kth (row m' c b) k) :=
  Cert.ReferenceIdeal.Nms.topS_read (done m' c) b k

omit hm ha in
theorem slot_kth (b : Fin 8) (k : Fin 100) : Cert.ReferenceIdeal.Nms.slot (done m' c) b k = kth (row m' c b) k := rfl

/-- A lane of a result. -/
theorem lane_meet (b : Fin 8) (k : Fin 100) (v : ℕ → EReal) (x : EReal) (h : 0 < row m' c b (kth (row m' c b) k) → v k.val = x) :
    Cert.KernelIdeal.Nms.mlane (selS m c b) v 100 (k.castLE (by decide)) = if 0 < Cert.ReferenceIdeal.Nms.topS (done m' c) (ix2 b k) then x else 0 := by
  rw [top_row hm ha]
  refine (if_pos (show (k.castLE (by decide) : Fin 128).val < 100 from k.2)).trans ?_
  show (if 0 < Cert.KernelIdeal.Gen.k1_pay16 (Cert.KernelIdeal.Nms.mleft (selS m c b) k.val) then v k.val else 0) = _
  by_cases hp : 0 < row m' c b (kth (row m' c b) k)
  · rw [if_pos hp, if_pos ((merge_meet hm ha b k).1.mpr hp)]
    exact h hp
  · rw [if_neg hp, if_neg fun hq => hp ((merge_meet hm ha b k).1.mp hq)]

theorem scores_meet (b : Fin 8) (k : Fin 100) :
    Cert.KernelIdeal.Nms.outS m c b (k.castLE (by decide)) = (Cert.ReferenceIdeal.Value.out_main_v35 (done m' c) : Vec Ideal Cert.ReferenceIdeal.S8x100 .f32) (ix2 b k) := by
  rw [Cert.ReferenceIdeal.Nms.scores_read]
  exact lane_meet hm ha b k _ _ fun hp => ((merge_meet hm ha b k).2 hp).1.trans (top_row hm ha b k).symm

theorem classes_meet (b : Fin 8) (k : Fin 100) :
    Cert.KernelIdeal.Nms.outC m c b (k.castLE (by decide)) = (Cert.ReferenceIdeal.Value.out_main_v38 (done m' c) : Vec Ideal Cert.ReferenceIdeal.S8x100 .f32) (ix2 b k) := by
  rw [Cert.ReferenceIdeal.Nms.classes_read, slot_kth]
  exact lane_meet hm ha b k _ _ fun hp => (((merge_meet hm ha b k).2 hp).2 _).trans (Cert.KernelIdeal.Nms.class_eq _)

theorem selB_cell (b : Fin 8) (n : Fin 8000) (a : Fin 4) :
    mg (selB m c b a) (cell n) = vB (done m' c) (ix4 b ⟨n.val / 100, by omega⟩ ⟨n.val % 100, by omega⟩ a) :=
  selB_at hm ha b ⟨n.val / 100, by omega⟩ ⟨n.val % 100, by omega⟩ ⟨n.val % 100, by omega⟩ rfl a

theorem boxes_meet (b : Fin 8) (k : Fin 100) (a : Fin 4) :
    Cert.KernelIdeal.Nms.outB m c b a (k.castLE (by decide)) = (Cert.ReferenceIdeal.Value.out_main_v37 (done m' c) : Vec Ideal Cert.ReferenceIdeal.S8x100x4 .f32) (ix3 b k a) := by
  refine Eq.trans ?_ (Cert.ReferenceIdeal.Nms.boxes_read (done m' c) b k a).symm
  refine lane_meet hm ha b k (Cert.KernelIdeal.Nms.mread (selS m c b) (selB m c b a)) _ fun hp => ?_
  refine Eq.trans ?_ (selB_cell hm ha b (Cert.ReferenceIdeal.Nms.slot (done m' c) b k) a)
  exact (((merge_meet hm ha b k).2 hp).2 (selB m c b a)).trans (congrArg (fun n => mg (selB m c b a) (cell n)) (slot_kth b k).symm)

theorem count_meet (b : Fin 8) :
    Cert.KernelIdeal.Nms.outN m c b = (Cert.ReferenceIdeal.Value.out_main_v40 (done m' c) : Vec Ideal Cert.ReferenceIdeal.S8 .i32) (ix1 b) := by
  rw [Cert.ReferenceIdeal.Nms.count_read, Cert.KernelIdeal.Nms.fold_count]
  simp only [top_row hm ha]
  exact Cert.KernelIdeal.Nms.merge_card (row_cell hm ha b) (selS_off hm b) (row_nonneg b)

end Cert.Nms

end
-- ==== Proof.Nms.Value.KRun.lean ====
/- The kernel's run, with its four results at what the last stretch of host operations leaves. -/
module

public import proofs.«01_k».proof.Proof.Nms.KernelIdeal.Frame

@[expose] public section

set_option maxRecDepth 16384

noncomputable section

namespace Cert.KernelIdeal.Nms

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run ends with the results at `W5` and the arguments as launched. -/
theorem run_values : θ_run defs (onTc (τ := τ) (main (F := F))) ⟨m, fun _ => 0, ρ⟩ (fun r => ∀ c : Dev nD,
      r.2.mem ((c.tc : Thread nD τ).loc main_v22) = W5 m ρ c (Proc.devRef .tc main_v22)
      ∧ r.2.mem ((c.tc : Thread nD τ).loc main_v24) = W5 m ρ c (Proc.devRef .tc main_v24)
      ∧ r.2.mem ((c.tc : Thread nD τ).loc main_v26) = W5 m ρ c (Proc.devRef .tc main_v26)
      ∧ r.2.mem ((c.tc : Thread nD τ).loc main_v27) = W5 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c => ⟨h c _ (mem_uc main_v22 (by decide)), h c _ (mem_uc main_v24 (by decide)), h c _ (mem_uc main_v26 (by decide)), h c _ (mem_uc main_v27 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Nms

end
-- ==== Proof.Nms.Value.Final.lean ====
/- The kernel and the reference leave the same results, over the extended reals. -/
module

public import proofs.«01_k».proof.Defs
public import proofs.«01_k».proof.Proof.Nms.Value.Meet
public import proofs.«01_k».proof.Proof.Nms.Value.KRun

@[expose] public section

set_option maxRecDepth 65536

noncomputable section

namespace Cert.Nms

open Idealize.ShloMosaic Idealize.ShloMosaic.TcCoe Idealize.ShloMosaic.StableHlo Idealize.SL.Sem
open Cert.ReferenceIdeal.Nms (scoresIn boxesIn scoreRow)
open Cert.KernelIdeal.Nms (nth posn)

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The scores of the kernel's arguments. -/
def scoresK : FVec Ideal Cert.ReferenceIdeal.S8x80x16128 .f32 :=
  Cert.ReferenceIdeal.Nms.above (Cert.ReferenceIdeal.Nms.prods
    (Cert.ReferenceIdeal.Nms.conf (m (c, Proc.devRef .tc Cert.KernelIdeal.main_arg1)) (m (c, Proc.devRef .tc Cert.KernelIdeal.main_arg4)) (m (c, Proc.devRef .tc Cert.KernelIdeal.main_arg7)))
    (Cert.KernelIdeal.Nms.classesK m c))

variable {m m' c}

theorem same_of (hb : Cert.KernelIdeal.Nms.boxesK m c = boxesIn m' c) (hs : scoresIn m' c = scoresK m c) : Same m m' c where
  box := hb
  img b d r l := by
    unfold scoreRow
    rw [hs]
    unfold scoresK
    rw [Cert.ReferenceIdeal.Nms.above_at, Cert.ReferenceIdeal.Nms.prods_at, mul_comm]
    rfl

theorem top_nth (b : Fin 8) (d : Fin 80) (k : Fin 200) :
    Cert.Pre_distinct_scores.Nms.flat (scoresIn m' c) (ix2 b ⟨d.val * 200 + k.val, by omega⟩) = scoreRow m' c b d (nth (scoreRow m' c b d) k) :=
  Cert.Pre_distinct_scores.Nms.flat_at (scoresIn m' c) b d k

theorem apart_of (h : Cert.Pre_distinct_scores.fn (F := Ideal) (m (c.tc.loc Cert.KernelIdeal.main_arg0)) (m (c.tc.loc Cert.KernelIdeal.main_arg1))
      (m (c.tc.loc Cert.KernelIdeal.main_arg2)) (m (c.tc.loc Cert.KernelIdeal.main_arg3)) (m (c.tc.loc Cert.KernelIdeal.main_arg4))
      (m (c.tc.loc Cert.KernelIdeal.main_arg5)) (m (c.tc.loc Cert.KernelIdeal.main_arg6)) (m (c.tc.loc Cert.KernelIdeal.main_arg7))
      (m (c.tc.loc Cert.KernelIdeal.main_arg8)) = fun _ => 1#1) (hs : scoresIn m' c = scoresK m c) : Apart m' c := by
  rw [Cert.Pre_distinct_scores.Nms.fn_eq _ _ _ _ _ _ _ _ _ (scoresIn m' c) hs] at h
  obtain ⟨h1, h2, h3⟩ := Cert.Pre_distinct_scores.Nms.parts _ _ _ h
  refine ⟨fun b d d' k k' hp he => ?_, fun b d => ?_, fun b d => ?_⟩
  · by_contra hn
    rw [← top_nth] at hp
    rw [← top_nth, ← top_nth] at he
    refine Cert.Pre_distinct_scores.Nms.flat_ne (scoresIn m' c) b (h1 b) _ _ (fun hij => hn ?_) hp (he ▸ hp) he
    have e := congrArg Fin.val hij
    simp only at e
    exact ⟨Fin.ext (by omega), Fin.ext (by omega)⟩
  · have h := Cert.Pre_distinct_scores.Nms.test2_at _ _ b d (h2 b d)
    rw [Cert.Pre_distinct_scores.Nms.last_at, Cert.Pre_distinct_scores.Nms.next_at] at h
    exact h
  · have h := Cert.Pre_distinct_scores.Nms.test3_at _ b d (h3 b d)
    rw [Cert.Pre_distinct_scores.Nms.last_at] at h
    exact h

end

theorem algebraic : Cert.algebraic_KernelIdeal_ReferenceIdeal_pre_distinct_scores := by
  intro m g m' g' hpre hargs
  have hb : ∀ c, Cert.KernelIdeal.Nms.boxesK m c = boxesIn m' c := fun c => by
    obtain ⟨a0, a1, a2, a3, a4, a5, a6, a7, a8⟩ := hargs c
    show Cert.ReferenceIdeal.Nms.boxes (m (c.tc.loc Cert.KernelIdeal.main_arg0)) (m (c.tc.loc Cert.KernelIdeal.main_arg3)) (m (c.tc.loc Cert.KernelIdeal.main_arg6)) = _
    rw [← a0, ← a3, ← a6]
    rfl
  have hs : ∀ c, scoresIn m' c = scoresK m c := fun c => by
    obtain ⟨a0, a1, a2, a3, a4, a5, a6, a7, a8⟩ := hargs c
    refine Eq.symm ?_
    show Cert.ReferenceIdeal.Nms.above (Cert.ReferenceIdeal.Nms.prods
      (Cert.ReferenceIdeal.Nms.conf (m (c.tc.loc Cert.KernelIdeal.main_arg1)) (m (c.tc.loc Cert.KernelIdeal.main_arg4)) (m (c.tc.loc Cert.KernelIdeal.main_arg7)))
      (Cert.ReferenceIdeal.Nms.classes (m (c.tc.loc Cert.KernelIdeal.main_arg2)) (m (c.tc.loc Cert.KernelIdeal.main_arg5)) (m (c.tc.loc Cert.KernelIdeal.main_arg8)))) = _
    rw [← a1, ← a2, ← a4, ← a5, ← a7, ← a8]
    rfl
  have hm : ∀ c, Same m m' c := fun c => same_of (hb c) (hs c)
  have ha : ∀ c, Apart m' c := fun c => apart_of (hpre c) (hs c)
  refine ⟨fun c => Cert.KernelIdeal.Nms.W5 m g c (Proc.devRef .tc Cert.KernelIdeal.main_v22), fun c => Cert.KernelIdeal.Nms.W5 m g c (Proc.devRef .tc Cert.KernelIdeal.main_v24),
    fun c => Cert.KernelIdeal.Nms.W5 m g c (Proc.devRef .tc Cert.KernelIdeal.main_v26), fun c => Cert.KernelIdeal.Nms.W5 m g c (Proc.devRef .tc Cert.KernelIdeal.main_v27),
    Cert.KernelIdeal.Nms.run_values m g, (θ_run _ _ _).mono (fun r h c => ?_) (Cert.ReferenceIdeal.Value.run m' g')⟩
  obtain ⟨r0, r1, r2, r3, rest⟩ := h c
  refine ⟨r0.trans ?_, r1.trans ?_, r2.trans ?_, r3.trans ?_, rest⟩
  · funext i
    obtain ⟨b, k, a, rfl⟩ : ∃ (b : Fin 8) (k : Fin 100) (a : Fin 4), i = ix3 b k a := ⟨i 0, i 1, i 2, by funext x; fin_cases x <;> rfl⟩
    exact ((Cert.KernelIdeal.Nms.v22_at m g c b k a).trans (boxes_meet (hm c) (ha c) b k a)).symm
  · funext i
    obtain ⟨b, k, rfl⟩ : ∃ (b : Fin 8) (k : Fin 100), i = ix2 b k := ⟨i 0, i 1, by funext x; fin_cases x <;> rfl⟩
    exact ((Cert.KernelIdeal.Nms.v24_at m g c b k).trans (scores_meet (hm c) (ha c) b k)).symm
  · funext i
    obtain ⟨b, k, rfl⟩ : ∃ (b : Fin 8) (k : Fin 100), i = ix2 b k := ⟨i 0, i 1, by funext x; fin_cases x <;> rfl⟩
    exact ((Cert.KernelIdeal.Nms.v26_at m g c b k).trans (classes_meet (hm c) (ha c) b k)).symm
  · funext i
    obtain ⟨b, rfl⟩ : ∃ b : Fin 8, i = ix1 b := ⟨i 0, by funext x; fin_cases x; rfl⟩
    exact ((Cert.KernelIdeal.Nms.v27_at m g c b).trans (count_meet (hm c) (ha c) b)).symm

end Cert.Nms

end
-- ==== Proof.lean ====
/- The claims, put together from the frames of the three programs and their agreement. -/
module

public import proofs.«01_k».proof.Defs
public import proofs.«01_k».proof.Proof.Nms.Kernel.Frame
public import proofs.«01_k».proof.Proof.Nms.KernelIdeal.Frame
public import proofs.«01_k».proof.Proof.Gen.ReferenceIdeal.Run
public import proofs.«01_k».proof.Proof.Nms.RefFrame
public import proofs.«01_k».proof.Proof.Gen.Pre_distinct_scores
public import proofs.«01_k».proof.Proof.Nms.Value.Final

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_distinct_scores.Gen.facts,
  fun m ρ _ => Cert.Kernel.Nms.frame m ρ, fun m ρ _ => Cert.KernelIdeal.Nms.frame m ρ,
  fun m ρ _ => Cert.KernelIdeal.Nms.frame m ρ, Cert.ReferenceIdeal.Nms.frame,
  fun m ρ _ => Cert.ReferenceIdeal.Nms.frame m ρ trivial, trivial, Cert.Nms.algebraic⟩

end Cert.Proof

end
